-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩
abbrev S512x512 : Shape := ⟨2, ![512, 512]⟩
abbrev S2x256x4x64 : Shape := ⟨4, ![2, 256, 4, 64]⟩
abbrev S4x2x256x64 : Shape := ⟨4, ![4, 2, 256, 64]⟩
abbrev S2x7x32x512 : Shape := ⟨4, ![2, 7, 32, 512]⟩
abbrev S64x512 : Shape := ⟨2, ![64, 512]⟩
abbrev S2x7 : Shape := ⟨2, ![2, 7]⟩
abbrev S256x256 : Shape := ⟨2, ![256, 256]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S64x256 : Shape := ⟨2, ![64, 256]⟩
abbrev S1x1 : Shape := ⟨2, ![1, 1]⟩
abbrev S1x1x32x512 : Shape := ⟨4, ![1, 1, 32, 512]⟩
abbrev S32x512 : Shape := ⟨2, ![32, 512]⟩

abbrev nBuf : Space → Nat
  | .hbm => 80
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x512, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2x256x4x64, .bf16⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S2x256x4x64, .bf16⟩
  | .hbm, ⟨76, _⟩ => ⟨S4x2x256x64, .bf16⟩
  | .hbm, ⟨77, _⟩ => ⟨S4x2x256x64, .bf16⟩
  | .hbm, ⟨78, _⟩ => ⟨S512x512, .bf16⟩
  | .hbm, ⟨79, _⟩ => ⟨S2x256x512, .bf16⟩
  | .local _ .vmem, ⟨0, _⟩ => ⟨S512x512, .bf16⟩
  | .local _ .vmem, ⟨1, _⟩ => ⟨S512x256, .bf16⟩
  | .local _ .vmem, ⟨2, _⟩ => ⟨S4x2x256x64, .bf16⟩
  | .local _ .vmem, ⟨3, _⟩ => ⟨S4x2x256x64, .bf16⟩
  | .local _ .vmem, ⟨4, _⟩ => ⟨S256x512, .bf16⟩
  | .local _ .vmem, ⟨5, _⟩ => ⟨S512x512, .bf16⟩
  | .local _ .vmem, ⟨6, _⟩ => ⟨S512x256, .bf16⟩
  | .local _ .vmem, ⟨7, _⟩ => ⟨S512x512, .bf16⟩
  | .local _ .vmem, ⟨8, _⟩ => ⟨S2x7x32x512, .bf16⟩
  | .local _ .vmem, ⟨9, _⟩ => ⟨S64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩
abbrev main_c_4 : Ref sig .tc := ⟨.hbm, 17, rfl⟩
abbrev main_c_5 : Ref sig .tc := ⟨.hbm, 18, rfl⟩
abbrev main_v8 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_c_8 : Ref sig .tc := ⟨.hbm, 23, rfl⟩
abbrev main_v10 : Ref sig .tc := ⟨.hbm, 24, rfl⟩
abbrev main_c_9 : Ref sig .tc := ⟨.hbm, 25, rfl⟩
abbrev main_c_10 : Ref sig .tc := ⟨.hbm, 26, rfl⟩
abbrev main_v11 : Ref sig .tc := ⟨.hbm, 27, rfl⟩
abbrev main_c_11 : Ref sig .tc := ⟨.hbm, 28, rfl⟩
abbrev main_v12 : Ref sig .tc := ⟨.hbm, 29, rfl⟩
abbrev main_c_12 : Ref sig .tc := ⟨.hbm, 30, rfl⟩
abbrev main_v13 : Ref sig .tc := ⟨.hbm, 31, rfl⟩
abbrev main_c_13 : Ref sig .tc := ⟨.hbm, 32, rfl⟩
abbrev main_v14 : Ref sig .tc := ⟨.hbm, 33, rfl⟩
abbrev main_v15 : Ref sig .tc := ⟨.hbm, 34, rfl⟩
abbrev main_c_14 : Ref sig .tc := ⟨.hbm, 35, rfl⟩
abbrev main_c_15 : Ref sig .tc := ⟨.hbm, 36, rfl⟩
abbrev main_v16 : Ref sig .tc := ⟨.hbm, 37, rfl⟩
abbrev main_c_16 : Ref sig .tc := ⟨.hbm, 38, rfl⟩
abbrev main_c_17 : Ref sig .tc := ⟨.hbm, 39, rfl⟩
abbrev main_v17 : Ref sig .tc := ⟨.hbm, 40, rfl⟩
abbrev main_c_18 : Ref sig .tc := ⟨.hbm, 41, rfl⟩
abbrev main_v18 : Ref sig .tc := ⟨.hbm, 42, rfl⟩
abbrev main_v19 : Ref sig .tc := ⟨.hbm, 43, rfl⟩
abbrev main_c_19 : Ref sig .tc := ⟨.hbm, 44, rfl⟩
abbrev main_v20 : Ref sig .tc := ⟨.hbm, 45, rfl⟩
abbrev main_c_20 : Ref sig .tc := ⟨.hbm, 46, rfl⟩
abbrev main_c_21 : Ref sig .tc := ⟨.hbm, 47, rfl⟩
abbrev main_v21 : Ref sig .tc := ⟨.hbm, 48, rfl⟩
abbrev main_c_22 : Ref sig .tc := ⟨.hbm, 49, rfl⟩
abbrev main_c_23 : Ref sig .tc := ⟨.hbm, 50, rfl⟩
abbrev main_v22 : Ref sig .tc := ⟨.hbm, 51, rfl⟩
abbrev main_c_24 : Ref sig .tc := ⟨.hbm, 52, rfl⟩
abbrev main_v23 : Ref sig .tc := ⟨.hbm, 53, rfl⟩
abbrev main_c_25 : Ref sig .tc := ⟨.hbm, 54, rfl⟩
abbrev main_c_26 : Ref sig .tc := ⟨.hbm, 55, rfl⟩
abbrev main_v24 : Ref sig .tc := ⟨.hbm, 56, rfl⟩
abbrev main_c_27 : Ref sig .tc := ⟨.hbm, 57, rfl⟩
abbrev main_c_28 : Ref sig .tc := ⟨.hbm, 58, rfl⟩
abbrev main_v25 : Ref sig .tc := ⟨.hbm, 59, rfl⟩
abbrev main_c_29 : Ref sig .tc := ⟨.hbm, 60, rfl⟩
abbrev main_v26 : Ref sig .tc := ⟨.hbm, 61, rfl⟩
abbrev main_c_30 : Ref sig .tc := ⟨.hbm, 62, rfl⟩
abbrev main_v27 : Ref sig .tc := ⟨.hbm, 63, rfl⟩
abbrev main_c_31 : Ref sig .tc := ⟨.hbm, 64, rfl⟩
abbrev main_v28 : Ref sig .tc := ⟨.hbm, 65, rfl⟩
abbrev main_v29 : Ref sig .tc := ⟨.hbm, 66, rfl⟩
abbrev main_c_32 : Ref sig .tc := ⟨.hbm, 67, rfl⟩
abbrev main_c_33 : Ref sig .tc := ⟨.hbm, 68, rfl⟩
abbrev main_v30 : Ref sig .tc := ⟨.hbm, 69, rfl⟩
abbrev main_c_34 : Ref sig .tc := ⟨.hbm, 70, rfl⟩
abbrev main_c_35 : Ref sig .tc := ⟨.hbm, 71, rfl⟩
abbrev main_v31 : Ref sig .tc := ⟨.hbm, 72, rfl⟩
abbrev main_c_36 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_129 : BitVec 32 := 1#32
  let v247 : BitVec 32 := Scalar.addi v2 c1_i32_129
  let c8_i32_130 : BitVec 32 := 8#32
  let v248 : BitVec 32 := Scalar.remsi v247 c8_i32_130
  let c1_i32_132 : BitVec 32 := 1#32
  let v249 : BitVec 32 := Scalar.muli v248 c1_i32_132
  let v250 : BitVec 32 := Scalar.addi c0_i32_133 v249
  v250.toNat
def k0_dev2 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v251 : BitVec 32 := Scalar.addi v2 c2_i32
  let c8_i32_134 : BitVec 32 := 8#32
  let v252 : BitVec 32 := Scalar.remsi v251 c8_i32_134
  let c1_i32_136 : BitVec 32 := 1#32
  let v253 : BitVec 32 := Scalar.muli v252 c1_i32_136
  let v254 : BitVec 32 := Scalar.addi c0_i32_137 v253
  v254.toNat
def k0_dev3 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v255 : BitVec 32 := Scalar.addi v2 c3_i32
  let c8_i32_138 : BitVec 32 := 8#32
  let v256 : BitVec 32 := Scalar.remsi v255 c8_i32_138
  let c1_i32_140 : BitVec 32 := 1#32
  let v257 : BitVec 32 := Scalar.muli v256 c1_i32_140
  let v258 : BitVec 32 := Scalar.addi c0_i32_141 v257
  v258.toNat
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v259 : BitVec 32 := Scalar.addi v2 c4_i32
  let c8_i32_142 : BitVec 32 := 8#32
  let v260 : BitVec 32 := Scalar.remsi v259 c8_i32_142
  let c1_i32_144 : BitVec 32 := 1#32
  let v261 : BitVec 32 := Scalar.muli v260 c1_i32_144
  let v262 : BitVec 32 := Scalar.addi c0_i32_145 v261
  v262.toNat
def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v263 : BitVec 32 := Scalar.addi v2 c5_i32
  let c8_i32_146 : BitVec 32 := 8#32
  let v264 : BitVec 32 := Scalar.remsi v263 c8_i32_146
  let c1_i32_148 : BitVec 32 := 1#32
  let v265 : BitVec 32 := Scalar.muli v264 c1_i32_148
  let v266 : BitVec 32 := Scalar.addi c0_i32_149 v265
  v266.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v267 : BitVec 32 := Scalar.addi v2 c6_i32
  let c8_i32_150 : BitVec 32 := 8#32
  let v268 : BitVec 32 := Scalar.remsi v267 c8_i32_150
  let c1_i32_152 : BitVec 32 := 1#32
  let v269 : BitVec 32 := Scalar.muli v268 c1_i32_152
  let v270 : BitVec 32 := Scalar.addi c0_i32_153 v269
  v270.toNat
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v271 : BitVec 32 := Scalar.addi v2 c7_i32
  let c8_i32_154 : BitVec 32 := 8#32
  let v272 : BitVec 32 := Scalar.remsi v271 c8_i32_154
  let c1_i32_156 : BitVec 32 := 1#32
  let v273 : BitVec 32 := Scalar.muli v272 c1_i32_156
  let v274 : BitVec 32 := Scalar.addi c0_i32_157 v273
  v274.toNat
def k0_off1 (d0 : Dev nD) (c1_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 32 := Scalar.addi v2 c1_i32_159
  let c8_i32_160 : BitVec 32 := 8#32
  let v276 : BitVec 32 := Scalar.remsi v275 c8_i32_160
  let c64_i32_161 : BitVec 32 := 64#32
  let v277 : BitVec 32 := Scalar.muli v276 c64_i32_161
  let v278 : Index := Scalar.indexCast v277
  let c0_162 : Index := 0#32
  ![v278.toNat, 0]
def k0_off2 (d0 : Dev nD) (c1_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 32 := Scalar.addi v2 c1_i32_159
  let c8_i32_160 : BitVec 32 := 8#32
  let v276 : BitVec 32 := Scalar.remsi v275 c8_i32_160
  let c64_i32_161 : BitVec 32 := 64#32
  let v277 : BitVec 32 := Scalar.muli v276 c64_i32_161
  let v284 : Index := Scalar.indexCast v277
  let c0_166 : Index := 0#32
  ![v284.toNat, 0]
def k0_off3 (d0 : Dev nD) (c1_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 32 := Scalar.addi v2 c1_i32_159
  let c8_i32_160 : BitVec 32 := 8#32
  let v276 : BitVec 32 := Scalar.remsi v275 c8_i32_160
  let c64_i32_167 : BitVec 32 := 64#32
  let v288 : BitVec 32 := Scalar.muli v276 c64_i32_167
  let c0_i32_178 : BitVec 32 := 0#32
  ![v288.toNat, 0]
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_159 : BitVec 32 := 1#32
  let v275 : BitVec 32 := Scalar.addi v2 c1_i32_159
  let c8_i32_160 : BitVec 32 := 8#32
  let v276 : BitVec 32 := Scalar.remsi v275 c8_i32_160
  let c1_i32_174 : BitVec 32 := 1#32
  let v289 : BitVec 32 := Scalar.muli v276 c1_i32_174
  let v290 : BitVec 32 := Scalar.addi c0_i32_175 v289
  v290.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_179 : BitVec 32 := 2#32
  let v298 : BitVec 32 := Scalar.addi v2 c2_i32_179
  let c8_i32_180 : BitVec 32 := 8#32
  let v299 : BitVec 32 := Scalar.remsi v298 c8_i32_180
  let c1_i32_194 : BitVec 32 := 1#32
  let v312 : BitVec 32 := Scalar.muli v299 c1_i32_194
  let v313 : BitVec 32 := Scalar.addi c0_i32_195 v312
  v313.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v321 : BitVec 32 := Scalar.addi v2 c3_i32_199
  let c8_i32_200 : BitVec 32 := 8#32
  let v322 : BitVec 32 := Scalar.remsi v321 c8_i32_200
  let c1_i32_214 : BitVec 32 := 1#32
  let v335 : BitVec 32 := Scalar.muli v322 c1_i32_214
  let v336 : BitVec 32 := Scalar.addi c0_i32_215 v335
  v336.toNat
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v344 : BitVec 32 := Scalar.addi v2 c4_i32_219
  let c8_i32_220 : BitVec 32 := 8#32
  let v345 : BitVec 32 := Scalar.remsi v344 c8_i32_220
  let c1_i32_234 : BitVec 32 := 1#32
  let v358 : BitVec 32 := Scalar.muli v345 c1_i32_234
  let v359 : BitVec 32 := Scalar.addi c0_i32_235 v358
  v359.toNat
def k0_dev12 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_239 : BitVec 32 := 5#32
  let v367 : BitVec 32 := Scalar.addi v2 c5_i32_239
  let c8_i32_240 : BitVec 32 := 8#32
  let v368 : BitVec 32 := Scalar.remsi v367 c8_i32_240
  let c1_i32_254 : BitVec 32 := 1#32
  let v381 : BitVec 32 := Scalar.muli v368 c1_i32_254
  let v382 : BitVec 32 := Scalar.addi c0_i32_255 v381
  v382.toNat
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_259 : BitVec 32 := 6#32
  let v390 : BitVec 32 := Scalar.addi v2 c6_i32_259
  let c8_i32_260 : BitVec 32 := 8#32
  let v391 : BitVec 32 := Scalar.remsi v390 c8_i32_260
  let c1_i32_274 : BitVec 32 := 1#32
  let v404 : BitVec 32 := Scalar.muli v391 c1_i32_274
  let v405 : BitVec 32 := Scalar.addi c0_i32_275 v404
  v405.toNat
def k0_dev14 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_279 : BitVec 32 := 7#32
  let v413 : BitVec 32 := Scalar.addi v2 c7_i32_279
  let c8_i32_280 : BitVec 32 := 8#32
  let v414 : BitVec 32 := Scalar.remsi v413 c8_i32_280
  let c1_i32_294 : BitVec 32 := 1#32
  let v427 : BitVec 32 := Scalar.muli v414 c1_i32_294
  let v428 : BitVec 32 := Scalar.addi c0_i32_295 v427
  v428.toNat
def k0_off4 (d0 : Dev nD) (c1_i32_299 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v436 : BitVec 32 := Scalar.addi v2 c1_i32_299
  let c8_i32_300 : BitVec 32 := 8#32
  let v437 : BitVec 32 := Scalar.remsi v436 c8_i32_300
  let c64_i32_301 : BitVec 32 := 64#32
  let v438 : BitVec 32 := Scalar.muli v437 c64_i32_301
  let c32_i32 : BitVec 32 := 32#32
  let v439 : BitVec 32 := Scalar.addi v438 c32_i32
  let c0_i32_312 : BitVec 32 := 0#32
  ![v439.toNat, 0]
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_299 : BitVec 32 := 1#32
  let v436 : BitVec 32 := Scalar.addi v2 c1_i32_299
  let c8_i32_300 : BitVec 32 := 8#32
  let v437 : BitVec 32 := Scalar.remsi v436 c8_i32_300
  let c1_i32_308 : BitVec 32 := 1#32
  let v440 : BitVec 32 := Scalar.muli v437 c1_i32_308
  let v441 : BitVec 32 := Scalar.addi c0_i32_309 v440
  v441.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  let v449 : BitVec 32 := Scalar.addi v2 c2_i32_313
  let c8_i32_314 : BitVec 32 := 8#32
  let v450 : BitVec 32 := Scalar.remsi v449 c8_i32_314
  let c1_i32_323 : BitVec 32 := 1#32
  let v453 : BitVec 32 := Scalar.muli v450 c1_i32_323
  let v454 : BitVec 32 := Scalar.addi c0_i32_324 v453
  v454.toNat
def k0_dev17 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_328 : BitVec 32 := 3#32
  let v462 : BitVec 32 := Scalar.addi v2 c3_i32_328
  let c8_i32_329 : BitVec 32 := 8#32
  let v463 : BitVec 32 := Scalar.remsi v462 c8_i32_329
  let c1_i32_338 : BitVec 32 := 1#32
  let v466 : BitVec 32 := Scalar.muli v463 c1_i32_338
  let v467 : BitVec 32 := Scalar.addi c0_i32_339 v466
  v467.toNat
def k0_dev18 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_343 : BitVec 32 := 4#32
  let v475 : BitVec 32 := Scalar.addi v2 c4_i32_343
  let c8_i32_344 : BitVec 32 := 8#32
  let v476 : BitVec 32 := Scalar.remsi v475 c8_i32_344
  let c1_i32_353 : BitVec 32 := 1#32
  let v479 : BitVec 32 := Scalar.muli v476 c1_i32_353
  let v480 : BitVec 32 := Scalar.addi c0_i32_354 v479
  v480.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_358 : BitVec 32 := 5#32
  let v488 : BitVec 32 := Scalar.addi v2 c5_i32_358
  let c8_i32_359 : BitVec 32 := 8#32
  let v489 : BitVec 32 := Scalar.remsi v488 c8_i32_359
  let c1_i32_368 : BitVec 32 := 1#32
  let v492 : BitVec 32 := Scalar.muli v489 c1_i32_368
  let v493 : BitVec 32 := Scalar.addi c0_i32_369 v492
  v493.toNat
def k0_dev20 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_373 : BitVec 32 := 6#32
  let v501 : BitVec 32 := Scalar.addi v2 c6_i32_373
  let c8_i32_374 : BitVec 32 := 8#32
  let v502 : BitVec 32 := Scalar.remsi v501 c8_i32_374
  let c1_i32_383 : BitVec 32 := 1#32
  let v505 : BitVec 32 := Scalar.muli v502 c1_i32_383
  let v506 : BitVec 32 := Scalar.addi c0_i32_384 v505
  v506.toNat
def k0_dev21 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_388 : BitVec 32 := 7#32
  let v514 : BitVec 32 := Scalar.addi v2 c7_i32_388
  let c8_i32_389 : BitVec 32 := 8#32
  let v515 : BitVec 32 := Scalar.remsi v514 c8_i32_389
  let c1_i32_398 : BitVec 32 := 1#32
  let v518 : BitVec 32 := Scalar.muli v515 c1_i32_398
  let v519 : BitVec 32 := Scalar.addi c0_i32_399 v518
  v519.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_403 : BitVec 32 := 64#32
  let v527 : BitVec 32 := Scalar.muli v2 c64_i32_403
  let v528 : Index := Scalar.indexCast v527
  let c0_404 : Index := 0#32
  ![v528.toNat, 0]
def k0_off6 (d0 : Dev nD) (c0_i32_513 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_512 : BitVec 32 := 64#32
  let v615 : BitVec 32 := Scalar.muli v2 c64_i32_512
  let v616 : BitVec 32 := Scalar.addi v615 c0_i32_513
  let v618 : Index := Scalar.indexCast v616
  let c0_516 : Index := 0#32
  ![v618.toNat, 0]
def k0_off7 (d0 : Dev nD) (c0_i32_513 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_512 : BitVec 32 := 64#32
  let v615 : BitVec 32 := Scalar.muli v2 c64_i32_512
  let v616 : BitVec 32 := Scalar.addi v615 c0_i32_513
  let c0_i32_525 : BitVec 32 := 0#32
  ![v616.toNat, 0]
def k0_dev22 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_517 : BitVec 32 := 1#32
  let v620 : BitVec 32 := Scalar.addi v2 c1_i32_517
  let c8_i32_518 : BitVec 32 := 8#32
  let v621 : BitVec 32 := Scalar.remsi v620 c8_i32_518
  let c1_i32_523 : BitVec 32 := 1#32
  let v622 : BitVec 32 := Scalar.muli v621 c1_i32_523
  let v623 : BitVec 32 := Scalar.addi c0_i32_524 v622
  v623.toNat
def k0_dev23 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_528 : BitVec 32 := 2#32
  let v630 : BitVec 32 := Scalar.addi v2 c2_i32_528
  let c8_i32_529 : BitVec 32 := 8#32
  let v631 : BitVec 32 := Scalar.remsi v630 c8_i32_529
  let c1_i32_534 : BitVec 32 := 1#32
  let v632 : BitVec 32 := Scalar.muli v631 c1_i32_534
  let v633 : BitVec 32 := Scalar.addi c0_i32_535 v632
  v633.toNat
def k0_dev24 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_539 : BitVec 32 := 3#32
  let v640 : BitVec 32 := Scalar.addi v2 c3_i32_539
  let c8_i32_540 : BitVec 32 := 8#32
  let v641 : BitVec 32 := Scalar.remsi v640 c8_i32_540
  let c1_i32_545 : BitVec 32 := 1#32
  let v642 : BitVec 32 := Scalar.muli v641 c1_i32_545
  let v643 : BitVec 32 := Scalar.addi c0_i32_546 v642
  v643.toNat
def k0_dev25 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_550 : BitVec 32 := 4#32
  let v650 : BitVec 32 := Scalar.addi v2 c4_i32_550
  let c8_i32_551 : BitVec 32 := 8#32
  let v651 : BitVec 32 := Scalar.remsi v650 c8_i32_551
  let c1_i32_556 : BitVec 32 := 1#32
  let v652 : BitVec 32 := Scalar.muli v651 c1_i32_556
  let v653 : BitVec 32 := Scalar.addi c0_i32_557 v652
  v653.toNat
def k0_dev26 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_561 : BitVec 32 := 5#32
  let v660 : BitVec 32 := Scalar.addi v2 c5_i32_561
  let c8_i32_562 : BitVec 32 := 8#32
  let v661 : BitVec 32 := Scalar.remsi v660 c8_i32_562
  let c1_i32_567 : BitVec 32 := 1#32
  let v662 : BitVec 32 := Scalar.muli v661 c1_i32_567
  let v663 : BitVec 32 := Scalar.addi c0_i32_568 v662
  v663.toNat
def k0_dev27 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_572 : BitVec 32 := 6#32
  let v670 : BitVec 32 := Scalar.addi v2 c6_i32_572
  let c8_i32_573 : BitVec 32 := 8#32
  let v671 : BitVec 32 := Scalar.remsi v670 c8_i32_573
  let c1_i32_578 : BitVec 32 := 1#32
  let v672 : BitVec 32 := Scalar.muli v671 c1_i32_578
  let v673 : BitVec 32 := Scalar.addi c0_i32_579 v672
  v673.toNat
def k0_dev28 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_583 : BitVec 32 := 7#32
  let v680 : BitVec 32 := Scalar.addi v2 c7_i32_583
  let c8_i32_584 : BitVec 32 := 8#32
  let v681 : BitVec 32 := Scalar.remsi v680 c8_i32_584
  let c1_i32_589 : BitVec 32 := 1#32
  let v682 : BitVec 32 := Scalar.muli v681 c1_i32_589
  let v683 : BitVec 32 := Scalar.addi c0_i32_590 v682
  v683.toNat
def k0_dev29 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_705 : BitVec 32 := 1#32
  let v777 : BitVec 32 := Scalar.addi v2 c1_i32_705
  let c8_i32_706 : BitVec 32 := 8#32
  let v778 : BitVec 32 := Scalar.remsi v777 c8_i32_706
  let c1_i32_711 : BitVec 32 := 1#32
  let v779 : BitVec 32 := Scalar.muli v778 c1_i32_711
  let v780 : BitVec 32 := Scalar.addi c0_i32_712 v779
  v780.toNat
def k0_dev30 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_716 : BitVec 32 := 2#32
  let v787 : BitVec 32 := Scalar.addi v2 c2_i32_716
  let c8_i32_717 : BitVec 32 := 8#32
  let v788 : BitVec 32 := Scalar.remsi v787 c8_i32_717
  let c1_i32_722 : BitVec 32 := 1#32
  let v789 : BitVec 32 := Scalar.muli v788 c1_i32_722
  let v790 : BitVec 32 := Scalar.addi c0_i32_723 v789
  v790.toNat
def k0_dev31 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_727 : BitVec 32 := 3#32
  let v797 : BitVec 32 := Scalar.addi v2 c3_i32_727
  let c8_i32_728 : BitVec 32 := 8#32
  let v798 : BitVec 32 := Scalar.remsi v797 c8_i32_728
  let c1_i32_733 : BitVec 32 := 1#32
  let v799 : BitVec 32 := Scalar.muli v798 c1_i32_733
  let v800 : BitVec 32 := Scalar.addi c0_i32_734 v799
  v800.toNat
def k0_dev32 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_738 : BitVec 32 := 4#32
  let v807 : BitVec 32 := Scalar.addi v2 c4_i32_738
  let c8_i32_739 : BitVec 32 := 8#32
  let v808 : BitVec 32 := Scalar.remsi v807 c8_i32_739
  let c1_i32_744 : BitVec 32 := 1#32
  let v809 : BitVec 32 := Scalar.muli v808 c1_i32_744
  let v810 : BitVec 32 := Scalar.addi c0_i32_745 v809
  v810.toNat
def k0_dev33 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_749 : BitVec 32 := 5#32
  let v817 : BitVec 32 := Scalar.addi v2 c5_i32_749
  let c8_i32_750 : BitVec 32 := 8#32
  let v818 : BitVec 32 := Scalar.remsi v817 c8_i32_750
  let c1_i32_755 : BitVec 32 := 1#32
  let v819 : BitVec 32 := Scalar.muli v818 c1_i32_755
  let v820 : BitVec 32 := Scalar.addi c0_i32_756 v819
  v820.toNat
def k0_dev34 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_760 : BitVec 32 := 6#32
  let v827 : BitVec 32 := Scalar.addi v2 c6_i32_760
  let c8_i32_761 : BitVec 32 := 8#32
  let v828 : BitVec 32 := Scalar.remsi v827 c8_i32_761
  let c1_i32_766 : BitVec 32 := 1#32
  let v829 : BitVec 32 := Scalar.muli v828 c1_i32_766
  let v830 : BitVec 32 := Scalar.addi c0_i32_767 v829
  v830.toNat
def k0_dev35 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_771 : BitVec 32 := 7#32
  let v837 : BitVec 32 := Scalar.addi v2 c7_i32_771
  let c8_i32_772 : BitVec 32 := 8#32
  let v838 : BitVec 32 := Scalar.remsi v837 c8_i32_772
  let c1_i32_777 : BitVec 32 := 1#32
  let v839 : BitVec 32 := Scalar.muli v838 c1_i32_777
  let v840 : BitVec 32 := Scalar.addi c0_i32_778 v839
  v840.toNat
def k0_off8 (d0 : Dev nD) (c1_i32_923 : BitVec 32) (c0_i32_926 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_922 : BitVec 32 := 8#32
  let v917 : BitVec 32 := Scalar.addi v2 c8_i32_922
  let v918 : BitVec 32 := Scalar.subi v917 c1_i32_923
  let c8_i32_924 : BitVec 32 := 8#32
  let v919 : BitVec 32 := Scalar.remsi v918 c8_i32_924
  let c64_i32_925 : BitVec 32 := 64#32
  let v920 : BitVec 32 := Scalar.muli v919 c64_i32_925
  let v921 : BitVec 32 := Scalar.addi v920 c0_i32_926
  let c0_i32_933 : BitVec 32 := 0#32
  ![v921.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 143
  | .vmem => 0
  | .smem => 0
  | _ => 0

abbrev hbmTy0_0 (i : Nat) : BufTy := match i % 128 with
  | 0 => ⟨S2x256x512, .bf16⟩
  | 1 => ⟨S512x2048, .bf16⟩
  | 2 => ⟨S2x256x32x64, .bf16⟩
  | 3 => ⟨S2x256x32x64, .bf16⟩
  | 4 => ⟨S2048x512, .bf16⟩
  | 5 => ⟨S2x256x512, .f32⟩
  | 6 => ⟨S512x2048, .f32⟩
  | 7 => ⟨S2x256x32x64, .f32⟩
  | 8 => ⟨S2x256x32x64, .f32⟩
  | 9 => ⟨S2048x512, .f32⟩
  | 10 => ⟨S2x256x2048, .f32⟩
  | 11 => ⟨S2x256x32x64, .f32⟩
  | 12 => ⟨S256, .i32⟩
  | 13 => ⟨S_, .i32⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S256, .i32⟩
  | 22 => ⟨S256, .i32⟩
  | 23 => ⟨S_, .i32⟩
  | 24 => ⟨S256, .i32⟩
  | 25 => ⟨S256, .i1⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S_, .i32⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S256, .i32⟩
  | 42 => ⟨S256, .i32⟩
  | 43 => ⟨S_, .i32⟩
  | 44 => ⟨S256, .i32⟩
  | 45 => ⟨S256, .i1⟩
  | 46 => ⟨S256, .i1⟩
  | 47 => ⟨S_, .i32⟩
  | 48 => ⟨S256, .i32⟩
  | 49 => ⟨S256, .i32⟩
  | 50 => ⟨S256, .i32⟩
  | 51 => ⟨S1x256, .i32⟩
  | 52 => ⟨S256x256, .i32⟩
  | 53 => ⟨S256x256, .i32⟩
  | 54 => ⟨S256x256, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x256, .i32⟩
  | 62 => ⟨S1x256, .i32⟩
  | 63 => ⟨S_, .i32⟩
  | 64 => ⟨S1x256, .i32⟩
  | 65 => ⟨S1x256, .i1⟩
  | 66 => ⟨S_, .i32⟩
  | 67 => ⟨S1x256, .i32⟩
  | 68 => ⟨S1x256, .i1⟩
  | 69 => ⟨S_, .i32⟩
  | 70 => ⟨S_, .i1⟩
  | 71 => ⟨S1x256, .i1⟩
  | 72 => ⟨S1x256, .i1⟩
  | 73 => ⟨S1x256, .i1⟩
  | 74 => ⟨S1x256, .i32⟩
  | 75 => ⟨S1x256, .i32⟩
  | 76 => ⟨S1x256, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S256x1, .i32⟩
  | 84 => ⟨S256x1, .i32⟩
  | 85 => ⟨S_, .i32⟩
  | 86 => ⟨S256x1, .i32⟩
  | 87 => ⟨S256x1, .i1⟩
  | 88 => ⟨S_, .i32⟩
  | 89 => ⟨S256x1, .i32⟩
  | 90 => ⟨S256x1, .i1⟩
  | 91 => ⟨S_, .i32⟩
  | 92 => ⟨S_, .i1⟩
  | 93 => ⟨S256x1, .i1⟩
  | 94 => ⟨S256x1, .i1⟩
  | 95 => ⟨S256x1, .i1⟩
  | 96 => ⟨S256x1, .i32⟩
  | 97 => ⟨S256x1, .i32⟩
  | 98 => ⟨S256x1, .i32⟩
  | 99 => ⟨S256x256, .i32⟩
  | 100 => ⟨S256x256, .i32⟩
  | 101 => ⟨S256x256, .i1⟩
  | 102 => ⟨S256x256, .i1⟩
  | 103 => ⟨S2x32x256x256, .f32⟩
  | 104 => ⟨S_, .f32⟩
  | 105 => ⟨S2x32x256x256, .f32⟩
  | 106 => ⟨S2x32x256x256, .f32⟩
  | 107 => ⟨S1x1x256x256, .i1⟩
  | 108 => ⟨S_, .f32⟩
  | 109 => ⟨S_, .f32⟩
  | 110 => ⟨S2x32x256x256, .i1⟩
  | 111 => ⟨S2x32x256x256, .f32⟩
  | 112 => ⟨S2x32x256x256, .f32⟩
  | 113 => ⟨S_, .f32⟩
  | 114 => ⟨S2x32x256, .f32⟩
  | 115 => ⟨S2x32x256x1, .f32⟩
  | 116 => ⟨S2x32x256x256, .f32⟩
  | 117 => ⟨S2x32x256x256, .f32⟩
  | 118 => ⟨S2x32x256x256, .f32⟩
  | 119 => ⟨S_, .i1⟩
  | 120 => ⟨S256, .i1⟩
  | 121 => ⟨S1x1x256x1, .i1⟩
  | 122 => ⟨S_, .f32⟩
  | 123 => ⟨S2x32x256, .f32⟩
  | 124 => ⟨S2x32x256x1, .f32⟩
  | 125 => ⟨S_, .f32⟩
  | 126 => ⟨S_, .f32⟩
  | 127 => ⟨S2x32x256x1, .i1⟩
  | _ => ⟨S2x256x512, .bf16⟩

abbrev hbmTy0_1 (i : Nat) : BufTy := match i % 128 with
  | 0 => ⟨S2x32x256x1, .f32⟩
  | 1 => ⟨S2x32x256x1, .f32⟩
  | 2 => ⟨S2x32x256x256, .f32⟩
  | 3 => ⟨S2x32x256x256, .f32⟩
  | 4 => ⟨S1x1x256x1, .i1⟩
  | 5 => ⟨S_, .f32⟩
  | 6 => ⟨S_, .f32⟩
  | 7 => ⟨S2x32x256x256, .i1⟩
  | 8 => ⟨S2x32x256x256, .f32⟩
  | 9 => ⟨S2x32x256x256, .f32⟩
  | 10 => ⟨S2x32x64x256, .f32⟩
  | 11 => ⟨S2x256x32x64, .f32⟩
  | 12 => ⟨S2x256x2048, .f32⟩
  | 13 => ⟨S2x256x512, .f32⟩
  | 14 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Points
public import Idealize.ShloMosaic.Lib.Tactic
public import Idealize.ShloMosaic.Lib.Tactic.ProgEq

/-! The kernel's body written with its loops: the printed body unrolls every loop over the two halves and the
seven other devices; here each loop is a loop again, over tables of the printed offsets and device numbers.
`body_eq_loop` says the two are the same program. -/

@[expose] public section

set_option maxRecDepth 65536

noncomputable section

namespace Cert.KernelIdeal.Exchange

open Idealize.ShloMosaic Idealize.ShloMosaic.TcCoe
open Idealize.SL Idealize.SL.Sem
open Cert.KernelIdeal Cert.KernelIdeal.Gen

variable {F : FTy → Type} [FloatOps F]

/-- A TensorCore program of this kernel. -/
abbrev Code (F : FTy → Type) [FloatOps F] (A : Type) := Prog (TpuEff nD τ sig (Elt F) Λ₀ .tc) A

/-- Do a thing for each of the seven other devices, in order. -/
def each7 (f : Fin 7 → Code F PUnit) : Code F PUnit := do
  f 0; f 1; f 2; f 3; f 4; f 5; f 6

/-- Do a thing for each of the seven other devices and keep the seven answers. -/
def keep7 {A : Type} (f : Fin 7 → Code F A) : Code F (Fin 7 → A) := do
  let a0 ← f 0
  let a1 ← f 1
  let a2 ← f 2
  let a3 ← f 3
  let a4 ← f 4
  let a5 ← f 5
  let a6 ← f 6
  pure ![a0, a1, a2, a3, a4, a5, a6]

/-- Where slot `(g, r)` of the receive buffer starts lies inside the buffer. -/
theorem slot_inb : ∀ (g : Fin 2) (r : Fin 7), ∀ a, (![g.val, r.val, 0, 0] : Fin 4 → Nat) a + S1x1x32x512.size a ≤ S2x7x32x512.size a := by decide
theorem slot_words : ∀ (g : Fin 2) (r : Fin 7), (Rect.unit (s := S2x7x32x512) ![g.val, r.val, 0, 0] S1x1x32x512.size (slot_inb g r)).WholeWords (EltTy.packing .bf16) := by decide
theorem sem_inb : ∀ (g : Fin 2) (r : Fin 7), ∀ a, (![g.val, r.val] : Fin 2 → Nat) a + S1x1.size a ≤ S2x7.size a := by decide
theorem red_inb : ∀ (g : Fin 2), ∀ a, (![32 * g.val, 0] : Fin 2 → Nat) a + S32x512.size a ≤ S64x512.size a := by decide
theorem red_words : ∀ (g : Fin 2), (Rect.unit (s := S64x512) ![32 * g.val, 0] S32x512.size (red_inb g)).WholeWords (EltTy.packing .bf16) := by decide
theorem red_packed : ∀ (g : Fin 2), (Rect.unit (s := S64x512) ![32 * g.val, 0] S32x512.size (red_inb g)).PackedRows (EltTy.packing .bf16) := by decide
theorem head_inb : ∀ (b : Fin 2) (h : Fin 4), ∀ a, (![256 * b.val, 64 * h.val] : Fin 2 → Nat) a + S256x64.size a ≤ S512x256.size a := by decide
theorem head_packed : ∀ (b : Fin 2) (h : Fin 4), (Rect.unit (s := S512x256) ![256 * b.val, 64 * h.val] S256x64.size (head_inb b h)).PackedRows (EltTy.packing .bf16) := by decide
theorem head_slices : ∀ (b : Fin 2) (h : Fin 4), S512x256.Slices ![256 * b.val, 64 * h.val] S256x64 := by decide
theorem kv_inb : ∀ (b : Fin 2) (h : Fin 4), ∀ a, (![h.val, b.val, 0, 0] : Fin 4 → Nat) a + S1x1x256x64.size a ≤ S4x2x256x64.size a := by decide

/-- Which scores a row block keeps: the mask the kernel builds once. -/
def maskBits : IVec S256x256 1 :=
  k0_pay5 k0_pay2 (iota .tc S256x256 32 [1] iota_S256x256_d1_w32) 64#32 k0_pay3 k0_pay4

/-- One head of one batch row: the attention of the slice of `q` at it. -/
def headOut (q : FVec F S512x256 .bf16) (b : Fin 2) (h : Fin 4) (k v : Vec F S1x1x256x64 .bf16) : FVec F S256x64 .bf16 :=
  k0_pay18 maskBits (extractStridedSlice S256x64 ![256 * b.val, 64 * h.val] q (head_slices b h)) k v

/-- One half of a chunk summed: the device's own half and the seven received ones, rounded at the end. -/
def sumHalf (own : FVec F S32x512 .f32) (s : Fin 7 → Vec F S1x1x32x512 .bf16) : FVec F S32x512 .bf16 :=
  k0_pay31 (k0_pay30 (k0_pay28 own (s 0) (s 1)) (k0_pay29 (s 2)) (s 3) (s 4)) (s 5) (s 6)

/-- Half `g` of the device's own chunk before rounding. -/
def ownHalf (rows : Vec F S64x256 .bf16) (wo : Vec F S256x512 .bf16) (g : Fin 2) : FVec F S32x512 .f32 :=
  match g with
  | 0 => k0_pay27 rows wo
  | 1 => k0_pay32 (k0_pay26 rows wo)

def devSig (d0 : Dev nD) : Fin 7 → Dev nD := ![(⟨k0_dev1 d0, k0_dev1_lt d0⟩ : Dev nD), (⟨k0_dev2 d0, k0_dev2_lt d0⟩ : Dev nD), (⟨k0_dev3 d0, k0_dev3_lt d0⟩ : Dev nD), (⟨k0_dev4 d0, k0_dev4_lt d0⟩ : Dev nD), (⟨k0_dev5 d0, k0_dev5_lt d0⟩ : Dev nD), (⟨k0_dev6 d0, k0_dev6_lt d0⟩ : Dev nD), (⟨k0_dev7 d0, k0_dev7_lt d0⟩ : Dev nD)]
def devSend (d0 : Dev nD) (g : Fin 2) : Fin 7 → Dev nD :=
  match g with
  | 0 => ![(⟨k0_dev8 d0, k0_dev8_lt d0⟩ : Dev nD), (⟨k0_dev9 d0, k0_dev9_lt d0⟩ : Dev nD), (⟨k0_dev10 d0, k0_dev10_lt d0⟩ : Dev nD), (⟨k0_dev11 d0, k0_dev11_lt d0⟩ : Dev nD), (⟨k0_dev12 d0, k0_dev12_lt d0⟩ : Dev nD), (⟨k0_dev13 d0, k0_dev13_lt d0⟩ : Dev nD), (⟨k0_dev14 d0, k0_dev14_lt d0⟩ : Dev nD)]
  | 1 => ![(⟨k0_dev15 d0, k0_dev15_lt d0⟩ : Dev nD), (⟨k0_dev16 d0, k0_dev16_lt d0⟩ : Dev nD), (⟨k0_dev17 d0, k0_dev17_lt d0⟩ : Dev nD), (⟨k0_dev18 d0, k0_dev18_lt d0⟩ : Dev nD), (⟨k0_dev19 d0, k0_dev19_lt d0⟩ : Dev nD), (⟨k0_dev20 d0, k0_dev20_lt d0⟩ : Dev nD), (⟨k0_dev21 d0, k0_dev21_lt d0⟩ : Dev nD)]
def devOut (d0 : Dev nD) (g : Fin 2) : Fin 7 → Dev nD :=
  match g with
  | 0 => ![(⟨k0_dev22 d0, k0_dev22_lt d0⟩ : Dev nD), (⟨k0_dev23 d0, k0_dev23_lt d0⟩ : Dev nD), (⟨k0_dev24 d0, k0_dev24_lt d0⟩ : Dev nD), (⟨k0_dev25 d0, k0_dev25_lt d0⟩ : Dev nD), (⟨k0_dev26 d0, k0_dev26_lt d0⟩ : Dev nD), (⟨k0_dev27 d0, k0_dev27_lt d0⟩ : Dev nD), (⟨k0_dev28 d0, k0_dev28_lt d0⟩ : Dev nD)]
  | 1 => ![(⟨k0_dev29 d0, k0_dev29_lt d0⟩ : Dev nD), (⟨k0_dev30 d0, k0_dev30_lt d0⟩ : Dev nD), (⟨k0_dev31 d0, k0_dev31_lt d0⟩ : Dev nD), (⟨k0_dev32 d0, k0_dev32_lt d0⟩ : Dev nD), (⟨k0_dev33 d0, k0_dev33_lt d0⟩ : Dev nD), (⟨k0_dev34 d0, k0_dev34_lt d0⟩ : Dev nD), (⟨k0_dev35 d0, k0_dev35_lt d0⟩ : Dev nD)]

/-- The rows of one half of the chunk meant for the `r`-th next device. -/
def partRect (d0 : Dev nD) (g : Fin 2) (r : Fin 7) : Rect S512x512 :=
  match g with
  | 0 => Rect.unit (s := S512x512) (k0_off3 d0 (BitVec.ofNat 32 (1 + r.val))) S32x512.size (k0_off3_inb d0 r)
  | 1 => Rect.unit (s := S512x512) (k0_off4 d0 (BitVec.ofNat 32 (1 + r.val))) S32x512.size (k0_off4_inb d0 r)

section
variable (m : Memref sig .tc .vmem S512x512 .bf16) (hm : m.IsWhole)

def partMem (d0 : Dev nD) (g : Fin 2) (r : Fin 7) : Memref sig .tc .vmem S32x512 .bf16 :=
  match g with
  | 0 => m.slice (Rect.unit (s := S512x512) (k0_off3 d0 (BitVec.ofNat 32 (1 + r.val))) S32x512.size (k0_off3_inb d0 r)) (fun _ => rfl)
  | 1 => m.slice (Rect.unit (s := S512x512) (k0_off4 d0 (BitVec.ofNat 32 (1 + r.val))) S32x512.size (k0_off4_inb d0 r)) (fun _ => rfl)

def outMem (d0 : Dev nD) (g : Fin 2) : Memref sig .tc .vmem S32x512 .bf16 :=
  m.slice (Rect.unit (s := S512x512) (k0_off7 d0 (BitVec.ofNat 32 (32 * g.val))) S32x512.size (k0_off7_inb d0 g)) (fun _ => rfl)

def inMem (d0 : Dev nD) (g : Fin 2) (r : Fin 7) : Memref sig .tc .vmem S32x512 .bf16 :=
  m.slice (Rect.unit (s := S512x512) (k0_off8 d0 (BitVec.ofNat 32 (1 + r.val)) (BitVec.ofNat 32 (32 * g.val))) S32x512.size (k0_off8_inb d0 r g)) (fun _ => rfl)

include hm
theorem partMem_words (d0 : Dev nD) (g : Fin 2) (r : Fin 7) : (partMem m d0 g r).view.WordExact := by
  match g with
  | 0 => exact hm.wordExact_slice rfl _ (k0_off3_wordsbf16 d0 r)
  | 1 => exact hm.wordExact_slice rfl _ (k0_off4_wordsbf16 d0 r)
theorem outMem_words (d0 : Dev nD) (g : Fin 2) : (outMem m d0 g).view.WordExact :=
  hm.wordExact_slice rfl _ (k0_off7_wordsbf16 d0 g)
theorem inMem_words (d0 : Dev nD) (g : Fin 2) (r : Fin 7) : (inMem m d0 g r).view.WordExact :=
  hm.wordExact_slice rfl _ (k0_off8_wordsbf16 d0 r g)
end

def slotRect (g : Fin 2) (r : Fin 7) : Rect S2x7x32x512 :=
  Rect.unit (s := S2x7x32x512) ![g.val, r.val, 0, 0] S1x1x32x512.size (slot_inb g r)

section
variable (m : Memref sig .tc .vmem S2x7x32x512 .bf16) (hm : m.IsWhole)
def slotMem (g : Fin 2) (r : Fin 7) : Memref sig .tc .vmem S32x512 .bf16 :=
  (m.slice (Rect.unit (s := S2x7x32x512) ![g.val, r.val, 0, 0] S1x1x32x512.size (slot_inb g r)) (fun _ => rfl)).squeeze S32x512 squeezes_S1x1x32x512_S32x512
include hm
theorem slotMem_words (g : Fin 2) (r : Fin 7) : (slotMem m g r).view.WordExact :=
  (hm.wordExact_slice rfl _ (slot_words g r)).reshape _ _
end

section
variable (m : Memref sig .tc .vmem S64x512 .bf16) (hm : m.IsWhole)
def redMem (g : Fin 2) : Memref sig .tc .vmem S32x512 .bf16 :=
  m.slice (Rect.unit (s := S64x512) ![32 * g.val, 0] S32x512.size (red_inb g)) (fun _ => rfl)
include hm
theorem redMem_words (g : Fin 2) : (redMem m g).view.WordExact :=
  hm.wordExact_slice rfl _ (red_words g)
end

def semAt (a : DmaSems sig S2x7) (g : Fin 2) (r : Fin 7) : DmaSem sig :=
  ((a.slice (Rect.unit (s := S2x7) ![g.val, r.val] S1x1.size (sem_inb g r))).squeeze S_ squeezes_S1x1_S_).sem

section Body
variable (arg0 : Memref sig .tc .vmem S512x512 .bf16) (harg0 : arg0.IsWhole) (arg1 : Memref sig .tc .vmem S512x256 .bf16) (harg1 : arg1.IsWhole) (arg2 : Memref sig .tc .vmem S4x2x256x64 .bf16) (harg2 : arg2.IsWhole) (arg3 : Memref sig .tc .vmem S4x2x256x64 .bf16) (harg3 : arg3.IsWhole) (arg4 : Memref sig .tc .vmem S256x512 .bf16) (harg4 : arg4.IsWhole) (arg5 : Memref sig .tc .vmem S512x512 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S2x7x32x512 .bf16) (harg8 : arg8.IsWhole) (arg9 : Memref sig .tc .vmem S64x512 .bf16) (harg9 : arg9.IsWhole) (arg10 arg11 arg12 arg13 : DmaSems sig S2x7)

/-- One head of one batch row into its place of the context buffer. -/
def headStep (q : FVec F S512x256 .bf16) (b : Fin 2) (h : Fin 4) : Code F PUnit := do
  let k : Vec F S1x1x256x64 .bf16 ← Prog.lift (.load arg2 (Rect.unit (s := S4x2x256x64) ![h.val, b.val, 0, 0] S1x1x256x64.size (kv_inb b h)).toLoadRect (View.loadsAt_vmem h_S1x1x256x64))
  let v : Vec F S1x1x256x64 .bf16 ← Prog.lift (.load arg3 (Rect.unit (s := S4x2x256x64) ![h.val, b.val, 0, 0] S1x1x256x64.size (kv_inb b h)).toLoadRect (View.loadsAt_vmem h_S1x1x256x64))
  let _o : Vec F S256x64 .bf16 ← Prog.lift (.load arg6 (Rect.unit (s := S512x256) ![256 * b.val, 64 * h.val] S256x64.size (head_inb b h)).toLoadRect (View.loadsAt_vmem h_S256x64))
  Prog.lift (.store arg6 (Rect.unit (s := S512x256) ![256 * b.val, 64 * h.val] S256x64.size (head_inb b h)) (headOut q b h k v) Finset.univ (View.stores_vmem h_S256x64 (harg6.storeExact_slice rfl _ (head_packed b h)) (fun _ => rfl)) (.inl rfl))

/-- The chunk meant for the `r`-th next device, computed and stored; -/
def chunkStep (d0 : Dev nD) (r : Fin 7) : Code F PUnit := do
  let x : Vec F S64x256 .bf16 ← Prog.lift (.load arg6 (Rect.unit (s := S512x256) (k0_off1 d0 (BitVec.ofNat 32 (1 + r.val))) S64x256.size (k0_off1_inb d0 r)).toLoadRect (View.loadsAt_vmem h_S64x256))
  let w : Vec F S256x512 .bf16 ← Prog.lift (.load arg4 (Rect.unit (s := S256x512) ![0, 0] S256x512.size inb_S256x512_S256x512_0_0).toLoadRect (View.loadsAt_vmem h_S256x512))
  let _o : Vec F S64x512 .bf16 ← Prog.lift (.load arg7 (Rect.unit (s := S512x512) (k0_off2 d0 (BitVec.ofNat 32 (1 + r.val))) S64x512.size (k0_off2_inb d0 r)).toLoadRect (View.loadsAt_vmem h_S64x512))
  Prog.lift (.store arg7 (Rect.unit (s := S512x512) (k0_off2 d0 (BitVec.ofNat 32 (1 + r.val))) S64x512.size (k0_off2_inb d0 r)) (k0_pay19 x w) Finset.univ (View.stores_vmem h_S64x512 (harg7.storeExact_slice rfl _ (k0_off2_packedbf16 d0 r)) (fun _ => rfl)) (.inl rfl))

/-- one of its halves sent. -/
def sendStep (d0 : Dev nD) (g : Fin 2) (r : Fin 7) : Code F PUnit :=
  Prog.lift (.enqueueDma (partMem arg7 d0 g r) (.remote (Dev.tc (devSend d0 g r)) (slotMem arg8 g r) (.dma (semAt arg10 g r))) (.dma (semAt arg11 g r)) (partMem_words arg7 harg7 d0 g r) (slotMem_words arg8 harg8 g r) ⟨⟨rfl, Or.inl rfl⟩, trivial⟩)

/-- A received half: waited for and read. -/
def recvStep (d0 : Dev nD) (g : Fin 2) (r : Fin 7) : Code F (Vec F S1x1x32x512 .bf16) := do
  Prog.lift (.waitDma2 (semAt arg11 g r) (partMem arg7 d0 g r) (slotMem arg8 g r) (partMem_words arg7 harg7 d0 g r) (slotMem_words arg8 harg8 g r))
  Prog.lift (.load arg8 (Rect.unit (s := S2x7x32x512) ![g.val, r.val, 0, 0] S1x1x32x512.size (slot_inb g r)).toLoadRect (View.loadsAt_vmem h_S1x1x32x512))

/-- The summed half stored, and written to the device's own rows of the result. -/
def reduceStep (d0 : Dev nD) (g : Fin 2) (own : FVec F S32x512 .f32) (s : Fin 7 → Vec F S1x1x32x512 .bf16) : Code F PUnit := do
  let _o : Vec F S32x512 .bf16 ← Prog.lift (.load arg9 (Rect.unit (s := S64x512) ![32 * g.val, 0] S32x512.size (red_inb g)).toLoadRect (View.loadsAt_vmem h_S32x512))
  Prog.lift (.store arg9 (Rect.unit (s := S64x512) ![32 * g.val, 0] S32x512.size (red_inb g)) (sumHalf own s) Finset.univ (View.stores_vmem h_S32x512 (harg9.storeExact_slice rfl _ (red_packed g)) (fun _ => rfl)) (.inl rfl))
  let w : Vec F S32x512 .bf16 ← Prog.lift (.load arg9 (Rect.unit (s := S64x512) ![32 * g.val, 0] S32x512.size (red_inb g)).toLoadRect (View.loadsAt_vmem h_S32x512))
  let _o' : Vec F S32x512 .bf16 ← Prog.lift (.load arg5 (Rect.unit (s := S512x512) (k0_off6 d0 (BitVec.ofNat 32 (32 * g.val))) S32x512.size (k0_off6_inb d0 g)).toLoadRect (View.loadsAt_vmem h_S32x512))
  Prog.lift (.store arg5 (Rect.unit (s := S512x512) (k0_off6 d0 (BitVec.ofNat 32 (32 * g.val))) S32x512.size (k0_off6_inb d0 g)) w Finset.univ (View.stores_vmem h_S32x512 (harg5.storeExact_slice rfl _ (k0_off6_packedbf16 d0 g)) (fun _ => rfl)) (.inl rfl))

/-- The summed half sent to one other device. -/
def shareStep (d0 : Dev nD) (g : Fin 2) (r : Fin 7) : Code F PUnit :=
  Prog.lift (.enqueueDma (redMem arg9 g) (.remote (Dev.tc (devOut d0 g r)) (outMem arg5 d0 g) (.dma (semAt arg12 g r))) (.dma (semAt arg13 g r)) (redMem_words arg9 harg9 g) (outMem_words arg5 harg5 d0 g) ⟨⟨rfl, Or.inl rfl⟩, trivial⟩)

def sentStep (d0 : Dev nD) (g : Fin 2) (r : Fin 7) : Code F PUnit :=
  Prog.lift (.waitDma2 (semAt arg10 g r) (slotMem arg8 g r) (partMem arg7 d0 g r) (slotMem_words arg8 harg8 g r) (partMem_words arg7 harg7 d0 g r))

def gotStep (d0 : Dev nD) (g : Fin 2) (r : Fin 7) : Code F PUnit :=
  Prog.lift (.waitDma2 (semAt arg13 g r) (redMem arg9 g) (inMem arg5 d0 g r) (redMem_words arg9 harg9 g) (inMem_words arg5 harg5 d0 g r))

def sharedStep (d0 : Dev nD) (g : Fin 2) (r : Fin 7) : Code F PUnit :=
  Prog.lift (.waitDma2 (semAt arg12 g r) (outMem arg5 d0 g) (redMem arg9 g) (outMem_words arg5 harg5 d0 g) (redMem_words arg9 harg9 g))

/-- The barrier counter. -/
def barSem : Sems sig S_ := SemArray.scalar (sig.barrier 0 rfl)

def sigStep (d0 : Dev nD) (r : Fin 7) : Code F PUnit :=
  semSignalWord (devSig d0 r) barSem.sem 1#32

/-- The body with its loops. -/
def loopBody : Code F PUnit := do
  let d0 : Dev nD ← Prog.lift .deviceId
  let x : Vec F S512x512 .bf16 ← Prog.lift (.load arg0 (Rect.unit (s := S512x512) ![0, 0] S512x512.size inb_S512x512_S512x512_0_0).toLoadRect (View.loadsAt_vmem h_S512x512))
  let wq : Vec F S512x256 .bf16 ← Prog.lift (.load arg1 (Rect.unit (s := S512x256) ![0, 0] S512x256.size inb_S512x256_S512x256_0_0).toLoadRect (View.loadsAt_vmem h_S512x256))
  headStep arg2 arg3 arg6 harg6 (k0_pay1 x wq) 0 0
  headStep arg2 arg3 arg6 harg6 (k0_pay1 x wq) 0 1
  headStep arg2 arg3 arg6 harg6 (k0_pay1 x wq) 0 2
  headStep arg2 arg3 arg6 harg6 (k0_pay1 x wq) 0 3
  headStep arg2 arg3 arg6 harg6 (k0_pay1 x wq) 1 0
  headStep arg2 arg3 arg6 harg6 (k0_pay1 x wq) 1 1
  headStep arg2 arg3 arg6 harg6 (k0_pay1 x wq) 1 2
  headStep arg2 arg3 arg6 harg6 (k0_pay1 x wq) 1 3
  each7 fun r => sigStep d0 r
  semWaitWord barSem.sem 7#32
  each7 fun r => do
    chunkStep arg4 arg6 arg7 harg7 d0 r
    sendStep arg7 harg7 arg8 harg8 arg10 arg11 d0 0 r
  each7 fun r => sendStep arg7 harg7 arg8 harg8 arg10 arg11 d0 1 r
  let rows : Vec F S64x256 .bf16 ← Prog.lift (.load arg6 (Rect.unit (s := S512x256) (k0_off5 d0) S64x256.size (k0_off5_inb d0)).toLoadRect (View.loadsAt_vmem h_S64x256))
  let wo : Vec F S256x512 .bf16 ← Prog.lift (.load arg4 (Rect.unit (s := S256x512) ![0, 0] S256x512.size inb_S256x512_S256x512_0_0).toLoadRect (View.loadsAt_vmem h_S256x512))
  let s0 ← keep7 fun r => recvStep arg7 harg7 arg8 harg8 arg11 d0 0 r
  reduceStep arg5 harg5 arg9 harg9 d0 0 (ownHalf rows wo 0) s0
  each7 fun r => shareStep arg5 harg5 arg9 harg9 arg12 arg13 d0 0 r
  let s1 ← keep7 fun r => recvStep arg7 harg7 arg8 harg8 arg11 d0 1 r
  reduceStep arg5 harg5 arg9 harg9 d0 1 (ownHalf rows wo 1) s1
  each7 fun r => shareStep arg5 harg5 arg9 harg9 arg12 arg13 d0 1 r
  each7 fun r => sentStep arg7 harg7 arg8 harg8 arg10 d0 0 r
  each7 fun r => sentStep arg7 harg7 arg8 harg8 arg10 d0 1 r
  each7 fun r => gotStep arg5 harg5 arg9 harg9 arg13 d0 0 r
  each7 fun r => gotStep arg5 harg5 arg9 harg9 arg13 d0 1 r
  each7 fun r => sharedStep arg5 harg5 arg9 harg9 arg12 d0 0 r
  each7 fun r => sharedStep arg5 harg5 arg9 harg9 arg12 d0 1 r

end Body

/-- The printed body is the body with its loops. -/
theorem body_eq_loop (arg0 : Memref sig .tc .vmem S512x512 .bf16) (harg0 : arg0.IsWhole) (arg1 : Memref sig .tc .vmem S512x256 .bf16) (harg1 : arg1.IsWhole) (arg2 : Memref sig .tc .vmem S4x2x256x64 .bf16) (harg2 : arg2.IsWhole) (arg3 : Memref sig .tc .vmem S4x2x256x64 .bf16) (harg3 : arg3.IsWhole) (arg4 : Memref sig .tc .vmem S256x512 .bf16) (harg4 : arg4.IsWhole) (arg5 : Memref sig .tc .vmem S512x512 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S2x7x32x512 .bf16) (harg8 : arg8.IsWhole) (arg9 : Memref sig .tc .vmem S64x512 .bf16) (harg9 : arg9.IsWhole) (arg10 arg11 arg12 arg13 : DmaSems sig S2x7) :
    cc0__body (F := F) arg0 harg0 arg1 harg1 arg2 harg2 arg3 harg3 arg4 harg4 arg5 harg5 arg6 harg6 arg7 harg7 arg8 harg8 arg9 harg9 arg10 arg11 arg12 arg13 = loopBody arg0 arg1 arg2 arg3 arg4 arg5 harg5 arg6 harg6 arg7 harg7 arg8 harg8 arg9 harg9 arg10 arg11 arg12 arg13 := by
  sl_kernel_rfl

end Cert.KernelIdeal.Exchange
-- ==== Proof.Places.lean ====
module

public import proofs.«01_k».proof.Proof.Program
public import Idealize.ShloMosaic.Lib.Pointwise.Index

/-! The places of the exchange and what they hold: the rows of the partial products, of the result and of the
receive buffer that go from one device to another, with the values the kernel computes for them. -/

@[expose] public section

set_option maxRecDepth 16384

noncomputable section

namespace Cert.KernelIdeal.Exchange

open Idealize.ShloMosaic Idealize.ShloMosaic.TcCoe
open Cert.KernelIdeal Cert.KernelIdeal.Gen

variable {F : FTy → Type} [FloatOps F]

/-! ## The other devices -/

/-- The `r`-th device after `c`, counted from zero. -/
def fwd (c : Dev nD) (r : Fin 7) : Dev nD := ⟨(c.val + r.val + 1) % 8, Nat.mod_lt _ (by decide)⟩
/-- The `r`-th device before `c`. -/
def bwd (c : Dev nD) (r : Fin 7) : Dev nD := ⟨(c.val + 7 - r.val) % 8, Nat.mod_lt _ (by decide)⟩
/-- The step that leads back. -/
def rev (r : Fin 7) : Fin 7 := ⟨6 - r.val, by omega⟩

theorem bwd_fwd : ∀ (c : Dev nD) (r : Fin 7), bwd (fwd c r) r = c := by decide
theorem fwd_bwd : ∀ (c : Dev nD) (r : Fin 7), fwd (bwd c r) r = c := by decide
theorem fwd_fwd_rev : ∀ (c : Dev nD) (r : Fin 7), fwd (fwd c r) (rev r) = c := by decide
theorem rev_rev : ∀ r : Fin 7, rev (rev r) = r := by decide
theorem fwd_inj : ∀ (c : Dev nD), Function.Injective (fwd c) := by decide
theorem bwd_inj : ∀ (c : Dev nD), Function.Injective (bwd c) := by decide
theorem fwd_others : ∀ c : Dev nD, Finset.univ.erase c = Finset.univ.map ⟨fwd c, fwd_inj c⟩ := by decide
theorem bwd_others : ∀ c : Dev nD, Finset.univ.erase c = Finset.univ.map ⟨bwd c, bwd_inj c⟩ := by decide

/-- The device `r` steps on, as a renumbering of the devices. -/
def turn (r : Fin 7) : Dev nD ≃ Dev nD := ⟨fun c => fwd c r, fun c => bwd c r, fun c => bwd_fwd c r, fun c => fwd_bwd c r⟩

theorem devSig_eq : ∀ (d0 : Dev nD) (r : Fin 7), devSig d0 r = fwd d0 r := by decide +kernel
theorem devSend_eq : ∀ (d0 : Dev nD) (g : Fin 2) (r : Fin 7), devSend d0 g r = fwd d0 r := by decide +kernel
theorem devOut_eq : ∀ (d0 : Dev nD) (g : Fin 2) (r : Fin 7), devOut d0 g r = fwd d0 r := by decide +kernel

/-! ## The places -/

theorem half_inb : ∀ (d : Dev nD) (g : Fin 2), ∀ a, (![64 * d.val + 32 * g.val, 0] : Fin 2 → Nat) a + S32x512.size a ≤ S512x512.size a := by decide
theorem chunk_inb : ∀ (d : Dev nD), ∀ a, (![64 * d.val, 0] : Fin 2 → Nat) a + S64x512.size a ≤ S512x512.size a := by decide
theorem rows_inb : ∀ (d : Dev nD), ∀ a, (![64 * d.val, 0] : Fin 2 → Nat) a + S64x256.size a ≤ S512x256.size a := by decide

/-- Half `g` of the 64 rows of chunk `d`, in the partial products and in the result. -/
abbrev halfRect (d : Dev nD) (g : Fin 2) : Rect S512x512 := Rect.unit (s := S512x512) ![64 * d.val + 32 * g.val, 0] S32x512.size (half_inb d g)
/-- The 64 rows of chunk `d`. -/
abbrev chunkRect (d : Dev nD) : Rect S512x512 := Rect.unit (s := S512x512) ![64 * d.val, 0] S64x512.size (chunk_inb d)
/-- The 64 rows of the context that chunk `d` is made of. -/
abbrev rowsRect (d : Dev nD) : Rect S512x256 := Rect.unit (s := S512x256) ![64 * d.val, 0] S64x256.size (rows_inb d)
/-- Half `g` of the summed chunk. -/
abbrev redRect (g : Fin 2) : Rect S64x512 := Rect.unit (s := S64x512) ![32 * g.val, 0] S32x512.size (red_inb g)
/-- Head `h` of batch row `b` in the context. -/
abbrev headRect (b : Fin 2) (h : Fin 4) : Rect S512x256 := Rect.unit (s := S512x256) ![256 * b.val, 64 * h.val] S256x64.size (head_inb b h)
abbrev kvRect (b : Fin 2) (h : Fin 4) : Rect S4x2x256x64 := Rect.unit (s := S4x2x256x64) ![h.val, b.val, 0, 0] S1x1x256x64.size (kv_inb b h)
abbrev slotPlace (g : Fin 2) (r : Fin 7) : Rect S2x7x32x512 := Rect.unit (s := S2x7x32x512) ![g.val, r.val, 0, 0] S1x1x32x512.size (slot_inb g r)

theorem half_disj : ∀ t t' : Dev nD × Fin 2, t ≠ t' → Disjoint (halfRect t.1 t.2).set (halfRect t'.1 t'.2).set := by
  rintro ⟨d, g⟩ ⟨d', g'⟩ h
  have h' : d.val ≠ d'.val ∨ g.val ≠ g'.val := by
    by_contra hc; simp only [not_or, not_not] at hc; exact h (Prod.ext (Fin.ext hc.1) (Fin.ext hc.2))
  refine Rect.unit_disjoint 0 ?_
  have := d.isLt; have := g.isLt; have := d'.isLt; have := g'.isLt
  show 64 * d.val + 32 * g.val + 32 ≤ 64 * d'.val + 32 * g'.val ∨ 64 * d'.val + 32 * g'.val + 32 ≤ 64 * d.val + 32 * g.val
  omega
theorem half_cov : (Finset.univ : Finset (Dev nD × Fin 2)).biUnion (fun t => (halfRect t.1 t.2).set) = Finset.univ := by
  refine Finset.eq_univ_iff_forall.mpr fun i => ?_
  have h0 : (i 0).val < 512 := (i 0).isLt
  have h1 : (i 1).val < 512 := (i 1).isLt
  refine Finset.mem_biUnion.mpr ⟨(⟨(i 0).val / 64, by show _ < 8; omega⟩, ⟨(i 0).val / 32 % 2, by omega⟩), Finset.mem_univ _, ?_⟩
  refine Rect.mem_set_unit.mpr (Fin.forall_fin_two.mpr ⟨?_, ?_⟩)
  · show 64 * ((i 0).val / 64) + 32 * ((i 0).val / 32 % 2) ≤ (i 0).val ∧ (i 0).val < 64 * ((i 0).val / 64) + 32 * ((i 0).val / 32 % 2) + 32
    omega
  · show 0 ≤ (i 1).val ∧ (i 1).val < 0 + 512
    omega
theorem chunk_disj : ∀ t t' : Dev nD, t ≠ t' → Disjoint (chunkRect t).set (chunkRect t').set := by
  intro d d' h
  have h' : d.val ≠ d'.val := fun hc => h (Fin.ext hc)
  refine Rect.unit_disjoint 0 ?_
  show 64 * d.val + 64 ≤ 64 * d'.val ∨ 64 * d'.val + 64 ≤ 64 * d.val
  omega
theorem chunk_cov : (Finset.univ : Finset (Dev nD)).biUnion (fun t => (chunkRect t).set) = Finset.univ := by
  refine Finset.eq_univ_iff_forall.mpr fun i => ?_
  have h0 : (i 0).val < 512 := (i 0).isLt
  have h1 : (i 1).val < 512 := (i 1).isLt
  refine Finset.mem_biUnion.mpr ⟨⟨(i 0).val / 64, by show _ < 8; omega⟩, Finset.mem_univ _, ?_⟩
  refine Rect.mem_set_unit.mpr (Fin.forall_fin_two.mpr ⟨?_, ?_⟩)
  · show 64 * ((i 0).val / 64) ≤ (i 0).val ∧ (i 0).val < 64 * ((i 0).val / 64) + 64
    omega
  · show 0 ≤ (i 1).val ∧ (i 1).val < 0 + 512
    omega
theorem red_disj : ∀ t t' : Fin 2, t ≠ t' → Disjoint (redRect t).set (redRect t').set := by
  intro d d' h
  have h' : d.val ≠ d'.val := fun hc => h (Fin.ext hc)
  refine Rect.unit_disjoint 0 ?_
  show 32 * d.val + 32 ≤ 32 * d'.val ∨ 32 * d'.val + 32 ≤ 32 * d.val
  omega
theorem red_cov : (Finset.univ : Finset (Fin 2)).biUnion (fun t => (redRect t).set) = Finset.univ := by
  refine Finset.eq_univ_iff_forall.mpr fun i => ?_
  have h0 : (i 0).val < 64 := (i 0).isLt
  have h1 : (i 1).val < 512 := (i 1).isLt
  refine Finset.mem_biUnion.mpr ⟨⟨(i 0).val / 32, by omega⟩, Finset.mem_univ _, ?_⟩
  refine Rect.mem_set_unit.mpr (Fin.forall_fin_two.mpr ⟨?_, ?_⟩)
  · show 32 * ((i 0).val / 32) ≤ (i 0).val ∧ (i 0).val < 32 * ((i 0).val / 32) + 32
    omega
  · show 0 ≤ (i 1).val ∧ (i 1).val < 0 + 512
    omega
theorem head_disj : ∀ t t' : Fin 2 × Fin 4, t ≠ t' → Disjoint (headRect t.1 t.2).set (headRect t'.1 t'.2).set := by
  rintro ⟨b, h⟩ ⟨b', h'⟩ hn
  have hn' : b.val ≠ b'.val ∨ h.val ≠ h'.val := by
    by_contra hc; simp only [not_or, not_not] at hc; exact hn (Prod.ext (Fin.ext hc.1) (Fin.ext hc.2))
  rcases hn' with hb | hh
  · refine Rect.unit_disjoint 0 ?_
    show 256 * b.val + 256 ≤ 256 * b'.val ∨ 256 * b'.val + 256 ≤ 256 * b.val
    omega
  · refine Rect.unit_disjoint 1 ?_
    show 64 * h.val + 64 ≤ 64 * h'.val ∨ 64 * h'.val + 64 ≤ 64 * h.val
    omega
theorem head_cov : (Finset.univ : Finset (Fin 2 × Fin 4)).biUnion (fun t => (headRect t.1 t.2).set) = Finset.univ := by
  refine Finset.eq_univ_iff_forall.mpr fun i => ?_
  have h0 : (i 0).val < 512 := (i 0).isLt
  have h1 : (i 1).val < 256 := (i 1).isLt
  refine Finset.mem_biUnion.mpr ⟨(⟨(i 0).val / 256, by omega⟩, ⟨(i 1).val / 64, by omega⟩), Finset.mem_univ _, ?_⟩
  refine Rect.mem_set_unit.mpr (Fin.forall_fin_two.mpr ⟨?_, ?_⟩)
  · show 256 * ((i 0).val / 256) ≤ (i 0).val ∧ (i 0).val < 256 * ((i 0).val / 256) + 256
    omega
  · show 64 * ((i 1).val / 64) ≤ (i 1).val ∧ (i 1).val < 64 * ((i 1).val / 64) + 64
    omega
theorem slot_disj : ∀ t t' : Fin 2 × Fin 7, t ≠ t' → Disjoint (slotPlace t.1 t.2).set (slotPlace t'.1 t'.2).set := by
  rintro ⟨b, h⟩ ⟨b', h'⟩ hn
  have hn' : b.val ≠ b'.val ∨ h.val ≠ h'.val := by
    by_contra hc; simp only [not_or, not_not] at hc; exact hn (Prod.ext (Fin.ext hc.1) (Fin.ext hc.2))
  rcases hn' with hb | hh
  · refine Rect.unit_disjoint 0 ?_
    show b.val + 1 ≤ b'.val ∨ b'.val + 1 ≤ b.val
    omega
  · refine Rect.unit_disjoint 1 ?_
    show h.val + 1 ≤ h'.val ∨ h'.val + 1 ≤ h.val
    omega
theorem slot_cov : (Finset.univ : Finset (Fin 2 × Fin 7)).biUnion (fun t => (slotPlace t.1 t.2).set) = Finset.univ := by
  refine Finset.eq_univ_iff_forall.mpr fun i => ?_
  have h0 : (i 0).val < 2 := (i 0).isLt
  have h1 : (i 1).val < 7 := (i 1).isLt
  have h2 : (i 2).val < 32 := (i 2).isLt
  have h3 : (i 3).val < 512 := (i 3).isLt
  refine Finset.mem_biUnion.mpr ⟨(i 0, i 1), Finset.mem_univ _, ?_⟩
  refine Rect.mem_set_unit.mpr fun a => ?_
  fin_cases a
  · show (i 0).val ≤ (i 0).val ∧ (i 0).val < (i 0).val + 1
    omega
  · show (i 1).val ≤ (i 1).val ∧ (i 1).val < (i 1).val + 1
    omega
  · show 0 ≤ (i 2).val ∧ (i 2).val < 0 + 32
    omega
  · show 0 ≤ (i 3).val ∧ (i 3).val < 0 + 512
    omega

/-- A chunk's rows are its two halves' rows. -/
theorem chunk_halves (d : Dev nD) : (chunkRect d).set = (halfRect d 0).set ∪ (halfRect d 1).set := by
  ext i
  have h1 : (i 1).val < 512 := (i 1).isLt
  have e0 : i ∈ (chunkRect d).set ↔ (64 * d.val ≤ (i 0).val ∧ (i 0).val < 64 * d.val + 64) ∧ (0 ≤ (i 1).val ∧ (i 1).val < 0 + 512) := by
    rw [Rect.mem_set_unit, Fin.forall_fin_two]; exact Iff.rfl
  have e1 (g : Fin 2) : i ∈ (halfRect d g).set ↔ (64 * d.val + 32 * g.val ≤ (i 0).val ∧ (i 0).val < 64 * d.val + 32 * g.val + 32)
      ∧ (0 ≤ (i 1).val ∧ (i 1).val < 0 + 512) := by
    rw [Rect.mem_set_unit, Fin.forall_fin_two]; exact Iff.rfl
  rw [Finset.mem_union, e0, e1, e1]
  show _ ↔ ((64 * d.val + 32 * 0 ≤ _ ∧ _ < 64 * d.val + 32 * 0 + 32) ∧ _) ∨ ((64 * d.val + 32 * 1 ≤ _ ∧ _ < 64 * d.val + 32 * 1 + 32) ∧ _)
  omega

/-! ## What they hold -/

/-- The arguments one device's kernel reads. -/
structure Ins (F : FTy → Type) [FloatOps F] where
  x : Vec F S512x512 .bf16
  wq : Vec F S512x256 .bf16
  k : Vec F S4x2x256x64 .bf16
  v : Vec F S4x2x256x64 .bf16
  wo : Vec F S256x512 .bf16

/-- One head of one batch row of a device's context. -/
def headV (I : Ins F) (b : Fin 2) (h : Fin 4) : Vec F S256x64 .bf16 :=
  headOut (k0_pay1 I.x I.wq) b h (fun j => I.k ((kvRect b h).emb j)) (fun j => I.v ((kvRect b h).emb j))

/-- A device's context: its four heads of both batch rows. -/
def ctxV (I : Ins F) : Vec F S512x256 .bf16 := fun i =>
  headV I ⟨(i 0).val / 256, by have h : (i 0).val < 512 := (i 0).isLt; omega⟩ ⟨(i 1).val / 64, by have h : (i 1).val < 256 := (i 1).isLt; omega⟩
    (ix2 (n0 := 256) (n1 := 64) ⟨(i 0).val % 256, Nat.mod_lt _ (by decide)⟩ ⟨(i 1).val % 64, Nat.mod_lt _ (by decide)⟩)

/-- The rows of the context chunk `d` is made of. -/
def rowsV (I : Ins F) (d : Dev nD) : Vec F S64x256 .bf16 := fun j => ctxV I ((rowsRect d).emb j)

/-- A device's part of chunk `d`. -/
def chunkV (I : Ins F) (d : Dev nD) : Vec F S64x512 .bf16 := k0_pay19 (rowsV I d) I.wo

/-- A device's parts of all chunks. -/
def partV (I : Ins F) : Vec F S512x512 .bf16 := fun i =>
  chunkV I ⟨(i 0).val / 64, by have h : (i 0).val < 512 := (i 0).isLt; show _ < 8; omega⟩
    (ix2 (n0 := 64) (n1 := 512) ⟨(i 0).val % 64, Nat.mod_lt _ (by decide)⟩ (i 1))

/-- Half `g` of a device's part of chunk `d`. -/
def halfV (I : Ins F) (d : Dev nD) (g : Fin 2) : Vec F S32x512 .bf16 := fun j => partV I ((halfRect d g).emb j)

/-- A half as the receive buffer's slot holds it. -/
def slotV (X : Vec F S32x512 .bf16) : Vec F S1x1x32x512 .bf16 := fun j =>
  X ((Shape.reshapeEquiv (squeezes_S1x1x32x512_S32x512).numel_eq).symm j)

/-- Half `g` of chunk `c`, summed over the devices. -/
def redV (J : Dev nD → Ins F) (c : Dev nD) (g : Fin 2) : Vec F S32x512 .bf16 :=
  sumHalf (ownHalf (rowsV (J c) c) (J c).wo g) (fun r => slotV (halfV (J (bwd c r)) c g))

/-- The whole result, the same on every device. -/
def outV (J : Dev nD → Ins F) : Vec F S512x512 .bf16 := fun i =>
  redV J ⟨(i 0).val / 64, by have h : (i 0).val < 512 := (i 0).isLt; show _ < 8; omega⟩ ⟨(i 0).val / 32 % 2, Nat.mod_lt _ (by decide)⟩
    (ix2 (n0 := 32) (n1 := 512) ⟨(i 0).val % 32, Nat.mod_lt _ (by decide)⟩ (i 1))

theorem ctxV_head (I : Ins F) (b : Fin 2) (h : Fin 4) : (fun j => ctxV I ((headRect b h).emb j)) = headV I b h := by
  funext j
  have h0 : (j 0).val < 256 := (j 0).isLt
  have h1 : (j 1).val < 64 := (j 1).isLt
  have e0 : ((headRect b h).emb j 0).val = 256 * b.val + (j 0).val := by
    show 256 * b.val + 1 * (j 0).val = _; omega
  have e1 : ((headRect b h).emb j 1).val = 64 * h.val + (j 1).val := by
    show 64 * h.val + 1 * (j 1).val = _; omega
  unfold ctxV
  refine congr (congr (congrArg (headV I) (Fin.ext ?_)) (Fin.ext ?_)) (funext fun a => ?_)
  · show ((headRect b h).emb j 0).val / 256 = b.val; omega
  · show ((headRect b h).emb j 1).val / 64 = h.val; omega
  · fin_cases a
    · exact Fin.ext (show ((headRect b h).emb j 0).val % 256 = (j 0).val by omega)
    · exact Fin.ext (show ((headRect b h).emb j 1).val % 64 = (j 1).val by omega)

theorem partV_chunk (I : Ins F) (d : Dev nD) : (fun j => partV I ((chunkRect d).emb j)) = chunkV I d := by
  funext j
  have h0 : (j 0).val < 64 := (j 0).isLt
  have e0 : ((chunkRect d).emb j 0).val = 64 * d.val + (j 0).val := by
    show 64 * d.val + 1 * (j 0).val = _; omega
  have e1 : ((chunkRect d).emb j 1).val = (j 1).val := by
    show 0 + 1 * (j 1).val = _; omega
  unfold partV
  refine congr (congrArg (chunkV I) (Fin.ext ?_)) (funext fun a => ?_)
  · show ((chunkRect d).emb j 0).val / 64 = d.val; omega
  · fin_cases a
    · exact Fin.ext (show ((chunkRect d).emb j 0).val % 64 = (j 0).val by omega)
    · exact Fin.ext (show ((chunkRect d).emb j 1).val = (j 1).val by omega)

theorem outV_half (J : Dev nD → Ins F) (d : Dev nD) (g : Fin 2) : (fun j => outV J ((halfRect d g).emb j)) = redV J d g := by
  funext j
  have h0 : (j 0).val < 32 := (j 0).isLt
  have hg := g.isLt
  have e0 : ((halfRect d g).emb j 0).val = 64 * d.val + 32 * g.val + (j 0).val := by
    show 64 * d.val + 32 * g.val + 1 * (j 0).val = _; omega
  have e1 : ((halfRect d g).emb j 1).val = (j 1).val := by
    show 0 + 1 * (j 1).val = _; omega
  unfold outV
  refine congr (congr (congrArg (redV J) (Fin.ext ?_)) (Fin.ext ?_)) (funext fun a => ?_)
  · show ((halfRect d g).emb j 0).val / 64 = d.val; omega
  · show ((halfRect d g).emb j 0).val / 32 % 2 = g.val; omega
  · fin_cases a
    · exact Fin.ext (show ((halfRect d g).emb j 0).val % 32 = (j 0).val by omega)
    · exact Fin.ext (show ((halfRect d g).emb j 1).val = (j 1).val by omega)

/-- What a slot holds, read through its squeezed view. -/
theorem slotV_squeeze (X : Vec F S32x512 .bf16) :
    (fun j => slotV X (Shape.reshapeEquiv (squeezes_S1x1x32x512_S32x512).numel_eq j)) = X := by
  funext j; unfold slotV; rw [Equiv.symm_apply_apply]

end Cert.KernelIdeal.Exchange
-- ==== Proof.Owns.lean ====
module

public import Idealize.ShloMosaic.Lib.Memref
public import Idealize.ShloMosaic.Lib.MemrefSat
public import Idealize.ShloMosaic.Lib.ShareLeaves
public import Idealize.ShloMosaic.Lib.Rounds
public import Idealize.ShloMosaic.Lib.Tactic

/-! The steps of a program in terms of memrefs owned at the values they read: loads, stores and remote copies. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

section Geometry
variable (c : Thread nD τ) {sp : Space} {s : Shape} {e : EltTy}

/-- Owning a squeezed memref is owning the memref, at the values renumbered. -/
theorem owns_squeeze_out (m : Memref sig c.2.kind sp s e) {s' : Shape} (h : s.Squeezes s') (q : PosShare TreeShare)
    (X : s.Idx → Val e) :
    (owns c (m.squeeze s' h) q (fun j => X (Shape.reshapeEquiv h.numel_eq j)) : sProp 𝕄) ⊢ owns c m q X := by
  unfold owns
  iintro ⟨%f, %hf, H⟩
  iexists f
  have hset : (m.squeeze s' h).view.set = m.view.set := View.set_reshape ..
  have hX : m.view.read Val f = X := by
    funext i
    have := congrFun hf ((Shape.reshapeEquiv h.numel_eq).symm i)
    rw [Equiv.apply_symm_apply] at this
    rw [← this]
    change _ = m.view.read Val f (Shape.reshapeEquiv h.numel_eq ((Shape.reshapeEquiv h.numel_eq).symm i))
    rw [Equiv.apply_symm_apply]
  isplitr
  · ipureintro; exact hX
  · have h2 : ((m.squeeze s' h).view.loc c ↦[(m.squeeze s' h).view.set]{q} f : sProp 𝕄) = (m.view.loc c ↦[m.view.set]{q} f) :=
      congrArg (fun S => (m.view.loc c ↦[S]{q} f : sProp 𝕄)) hset
    rw [← h2]; iexact H

theorem owns_squeeze_in (m : Memref sig c.2.kind sp s e) {s' : Shape} (h : s.Squeezes s') (q : PosShare TreeShare)
    (X : s.Idx → Val e) :
    (owns c m q X : sProp 𝕄) ⊢ owns c (m.squeeze s' h) q (fun j => X (Shape.reshapeEquiv h.numel_eq j)) := by
  unfold owns
  iintro ⟨%f, %hf, H⟩
  iexists f
  have hset : (m.squeeze s' h).view.set = m.view.set := View.set_reshape ..
  isplitr
  · ipureintro; subst hf; rfl
  · have h2 : ((m.squeeze s' h).view.loc c ↦[(m.squeeze s' h).view.set]{q} f : sProp 𝕄) = (m.view.loc c ↦[m.view.set]{q} f) :=
      congrArg (fun S => (m.view.loc c ↦[S]{q} f : sProp 𝕄)) hset
    rw [h2]; iexact H

/-- A memref owned at a share is owned at its eight leaves of the share, -/
theorem owns_leaves (m : Memref sig c.2.kind sp s e) (n : ℕ) (q : PosShare TreeShare) (X : s.Idx → Val e) :
    (owns c m q X : sProp 𝕄) ⊢ bigSep Finset.univ fun i : Fin (2 ^ n) => owns c m (ShareLeaves.leaf n q i) X := by
  refine (show (owns c m q X : sProp 𝕄) ⊢ iprop(∃ f, ⌜m.view.read Val f = X⌝ ∗ (m.view.loc c ↦[m.view.set]{q} f)) from .rfl).trans ?_
  iintro ⟨%f, %hf, H⟩
  subst hf
  have h : (m.view.loc c ↦[m.view.set]{q} f : sProp 𝕄)
      ⊢ bigSep Finset.univ fun i : Fin (2 ^ n) => owns c m (ShareLeaves.leaf n q i) (m.view.read Val f) := by
    refine (Entails.of_eq (ShareLeaves.pointsTo_leaves (ℓ := m.view.loc c) m.view.set f n q)).trans ?_
    exact bigSep_mono fun i _ => owns_intro c m _ f
  iapply h $$ H

/-- Owning a memref at what it reads of given contents is its elements at those contents. -/
theorem owns_eq_at (m : Memref sig c.2.kind sp s e) (q : PosShare TreeShare) (g : m.view.ty.Contents Val) :
    (owns c m q (m.view.read Val g) : sProp 𝕄) = (m.view.loc c ↦[m.view.set]{q} g) := by
  have h₁ : iprop(∃ f, ⌜m.view.read Val f = m.view.read Val g⌝ ∗ (m.view.loc c ↦[m.view.set]{q} f))
      ⊢ (m.view.loc c ↦[m.view.set]{q} g : sProp 𝕄) := by
    iintro ⟨%f, %hf, H⟩
    have h : (m.view.loc c ↦[m.view.set]{q} f : sProp 𝕄) = (m.view.loc c ↦[m.view.set]{q} g) :=
      pointsTo_congr fun i hi => by
        obtain ⟨x, -, rfl⟩ := Finset.mem_map.mp hi
        have := congrFun hf x
        simp only [View.read] at this
        exact (cast_inj _).mp this
    rw [← h]; iexact H
  exact BI.equiv_iff.mp ⟨h₁, owns_intro c m q g⟩

/-- and back. -/
theorem owns_of_leaves [∀ e, Nonempty (Val e)] (m : Memref sig c.2.kind sp s e) (n : ℕ) (q : PosShare TreeShare) (X : s.Idx → Val e) :
    (bigSep Finset.univ fun i : Fin (2 ^ n) => owns c m (ShareLeaves.leaf n q i) X : sProp 𝕄) ⊢ owns c m q X := by
  obtain ⟨g, hg⟩ : ∃ g : m.view.ty.Contents Val, m.view.read Val g = X :=
    ⟨m.view.write Val (fun _ => Classical.arbitrary _) X Finset.univ, View.read_write_univ ..⟩
  subst hg
  rw [owns_eq_at, bigSep_congr (fun i _ => owns_eq_at (nD := nD) (τ := τ) (Ix := Ix) (Name := Name) (U := U) (Lvl := Lvl) c m (ShareLeaves.leaf n q i) g)]
  exact Entails.of_eq (ShareLeaves.pointsTo_leaves (ℓ := m.view.loc c) m.view.set g n q).symm
end Geometry

section Steps
variable [Preorder Lvl] {defs : Defs nD τ sig Val Λ} (𝒱 : Variants) (c : Thread nD τ)
variable (bd : Option 𝒱.V) {Γ : PendingWaitsCtx sig Ix} (E : Set Name)
variable {sp sp' : Space} {cs : CoreSpace} {s : Shape} {e : EltTy}
variable {α : Type} {Q : α → sProp (MT nD τ sig Ix Val Name U Lvl)}

/-- Loading a slice that is owned. -/
theorem wp_load_slice {m : Memref sig c.2.kind cs s e} {r : Rect s} {hl : m.view.LoadsAt r.toLoadRect}
    {k : (r.toLoadRect.shape.Idx → Val e) → Prog (TpuEff nD τ sig Val Λ c.2) α} (hr : ∀ a, r.stride a = 1) {q : PosShare TreeShare}
    {X : r.shape.Idx → Val e} :
    owns c (m.slice r hr) q X
      ⊢ iprop((owns c (m.slice r hr) q X -∗ wp frame (wpE' defs 𝒱 c bd Γ) E (k X) Q)
        -∗ wp frame (wpE' defs 𝒱 c bd Γ) E (.op (.load m r.toLoadRect hl) k) Q) := by
  refine (show (owns c (m.slice r hr) q X : sProp 𝕄) ⊢ iprop(∃ f, ⌜(m.slice r hr).view.read Val f = X⌝
    ∗ ((m.slice r hr).view.loc c ↦[(m.slice r hr).view.set]{q} f)) from .rfl).trans ?_
  iintro ⟨%f, %hf, H⟩ HK
  subst hf
  iapply (wp_load_rect 𝒱 c bd E (Q := Q) (m := m) (r := r) (hl := hl) (k := k) (q := q) (f := f) (S := (m.slice r hr).view.set) (fun _ h => h)) $$ H
  iintro H
  iapply HK
  iapply (owns_intro c (m.slice r hr) q f) $$ H

/-- Loading a rectangle of a memref that is owned whole. -/
theorem wp_load_part {m : Memref sig c.2.kind cs s e} {r : Rect s} {hl : m.view.LoadsAt r.toLoadRect}
    {k : (r.toLoadRect.shape.Idx → Val e) → Prog (TpuEff nD τ sig Val Λ c.2) α} {q : PosShare TreeShare}
    {X : s.Idx → Val e} :
    owns c m q X
      ⊢ iprop((owns c m q X -∗ wp frame (wpE' defs 𝒱 c bd Γ) E (k (fun j => X (r.emb j))) Q)
        -∗ wp frame (wpE' defs 𝒱 c bd Γ) E (.op (.load m r.toLoadRect hl) k) Q) := by
  refine (show (owns c m q X : sProp 𝕄) ⊢ iprop(∃ f, ⌜m.view.read Val f = X⌝
    ∗ (m.view.loc c ↦[m.view.set]{q} f)) from .rfl).trans ?_
  iintro ⟨%f, %hf, H⟩ HK
  subst hf
  iapply (wp_load_rect 𝒱 c bd E (Q := Q) (m := m) (r := r) (hl := hl) (k := k) (q := q) (f := f) (S := m.view.set) (View.set_slice_subset _ _)) $$ H
  iintro H
  iapply HK
  iapply (owns_intro c m q f) $$ H

/-- Storing to a slice that is owned. -/
theorem wp_store_slice {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (hr : ∀ a, r.stride a = 1) {X : r.shape.Idx → Val e} :
    owns c (m.slice r hr) fullShare X
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  refine (show (owns c (m.slice r hr) fullShare X : sProp 𝕄) ⊢ iprop(∃ f, ⌜(m.slice r hr).view.read Val f = X⌝
    ∗ ((m.slice r hr).view.loc c ↦[(m.slice r hr).view.set]{fullShare} f)) from .rfl).trans ?_
  iintro ⟨%f, %hf, H⟩ HK
  iapply (wp_store 𝒱 c bd E (Q := Q) (m := m) (r := r) (w := w) (hx := hx) (hm := hm) (k := k) (f := f) (S := (m.slice r hr).view.set) (fun _ h => h)) $$ H
  iintro H
  iapply HK
  have h := owns_intro (nD := nD) (τ := τ) (Ix := Ix) (Name := Name) (U := U) (Lvl := Lvl) c (m.slice r hr) fullShare ((m.access r).write Val f w Finset.univ)
  rw [show (m.slice r hr).view.read Val ((m.access r).write Val f w Finset.univ) = w from View.read_write_univ (v := m.access r) (Val := Val) f w] at h
  iapply h $$ H

variable {D : Type} [DecidableEq D]
variable (Em : Emb (Rounds.URounds (GSem nD τ sig) D) (MT nD τ sig Ix Val Name U Lvl))
variable (Rd : Rounds.Schedule (GSem nD τ sig) D (MT nD τ sig Ix Val Name U Lvl))

/-- Sending a memref that is owned at a share onto one of another device that is owned outright: the two duties paid are
    the memref given back and the other device's memref holding its values. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {X Y : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) {Es : Set Name} (hr : τ.routes c c' = true) :
    iprop(Rounds.cellInv Em Rd κ₁ (c, sS) ∗ Rounds.cellInv Em Rd κ₂ (c', sem)
        ∗ owns c src q X ∗ owns c' dst fullShare Y
        ∗ owes c O₀ W
        ∗ Rounds.dutyTok Em (c, sS) r₁ d₁ ∗ Rounds.reached Em (c, sS) r₁
        ∗ Rounds.dutyTok Em (c', sem) r₂ d₂ ∗ Rounds.reached Em (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  have o1 : (owns c src q X : sProp 𝕄) ⊢ iprop(∃ f, ⌜src.view.read Val f = X⌝ ∗ (src.view.loc c ↦[src.view.set]{q} f)) := .rfl
  have o2 : (owns c' dst fullShare Y : sProp 𝕄) ⊢ iprop(∃ f, ⌜dst.view.read Val f = Y⌝ ∗ (dst.view.loc c' ↦[dst.view.set]{fullShare} f)) := .rfl
  iintro ⟨HI1, HI2, HS, HD, HO, T1, R1, T2, R2⟩ HK
  ihave ⟨%fs, %hs, HS⟩ := o1 $$ HS
  ihave ⟨%fd, %hd, HD⟩ := o2 $$ HD
  have h2 := owns_intro (nD := nD) (τ := τ) (Ix := Ix) (Name := Name) (U := U) (Lvl := Lvl) c' dst fullShare
    (dst.view.write Val fd (src.view.read Val fs) Finset.univ)
  subst hs
  rw [View.read_write_univ] at h2
  have h1 := owns_intro (nD := nD) (τ := τ) (Ix := Ix) (Name := Name) (U := U) (Lvl := Lvl) c src q fs
  iapply (Rounds.wp_send_pointsTo 𝒱 Em Rd c bd (Q := Q) (src := src) (dst := dst) (hsc := hsc) (sS := sS) (sem := sem)
    (hsrc := hsrc) (hdst := hdst) (hsem := hsem) (k := k) (q := q) (fs := fs) (fd := fd) hd₁ hd₂ ι ι' N hN hk₁ hk₂ O hO
    (h1.trans hpay₁) (h2.trans hpay₂) hr) $$ [$]
  iexact HK

end Steps

end Cert.KernelIdeal.Exchange
-- ==== Proof.Cells.lean ====
module

public import proofs.«01_k».proof.Proof.Places
public import proofs.«01_k».proof.Proof.Owns
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Pipeline.Launch
public import Idealize.ShloMosaic.Lib.Rounds
public import Idealize.ShloMosaic.Lib.Tactic

/-! The counters of the exchange: what each is paid with, by whom, and in which order a device pays what it owes. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Buffers -/

abbrev cM : Memref sig .tc .vmem S512x256 .bf16 := Memref.whole cc0_scratch0
abbrev pM : Memref sig .tc .vmem S512x512 .bf16 := Memref.whole cc0_scratch1
abbrev sM : Memref sig .tc .vmem S2x7x32x512 .bf16 := Memref.whole cc0_scratch2
abbrev rM : Memref sig .tc .vmem S64x512 .bf16 := Memref.whole cc0_scratch3
abbrev oM : Memref sig .tc .vmem S512x512 .bf16 := Memref.whole cc0_stg5_0

/-- Half `g` of a device's part of chunk `d`. -/
abbrev pHalf (d : Dev nD) (g : Fin 2) : Memref sig .tc .vmem S32x512 .bf16 := pM.slice (halfRect d g) (fun _ => rfl)
/-- Half `g` of chunk `d` of the result. -/
abbrev oHalf (d : Dev nD) (g : Fin 2) : Memref sig .tc .vmem S32x512 .bf16 := oM.slice (halfRect d g) (fun _ => rfl)
/-- Slot `(g, r)` of the receive buffer, before and after its two unit axes are dropped. -/
abbrev sPlace (g : Fin 2) (r : Fin 7) : Memref sig .tc .vmem S1x1x32x512 .bf16 := sM.slice (slotPlace g r) (fun _ => rfl)
abbrev sSlot (g : Fin 2) (r : Fin 7) : Memref sig .tc .vmem S32x512 .bf16 := (sPlace g r).squeeze S32x512 squeezes_S1x1x32x512_S32x512
/-- Half `g` of the summed chunk. -/
abbrev rHalf (g : Fin 2) : Memref sig .tc .vmem S32x512 .bf16 := rM.slice (redRect g) (fun _ => rfl)

/-! ## Counters -/

/-- The exchange's own counters: sends (0) and arrivals (1) of the first phase, sends (2) and arrivals (3) of the second. -/
def dsem (a : Fin 4) (g : Fin 2) (r : Fin 7) : DmaSem sig := ⟨6 + 14 * a.val + 7 * g.val + r.val, by
  have := a.isLt; have := g.isLt; have := r.isLt
  show _ < 62; omega⟩

theorem semAt_0 : ∀ (g : Fin 2) (r : Fin 7), semAt cc0_scratch4 g r = dsem 0 g r := by decide +kernel
theorem semAt_1 : ∀ (g : Fin 2) (r : Fin 7), semAt cc0_scratch5 g r = dsem 1 g r := by decide +kernel
theorem semAt_2 : ∀ (g : Fin 2) (r : Fin 7), semAt cc0_scratch6 g r = dsem 2 g r := by decide +kernel
theorem semAt_3 : ∀ (g : Fin 2) (r : Fin 7), semAt cc0_scratch7 g r = dsem 3 g r := by decide +kernel

abbrev barCell (c : Dev nD) : GSem nD τ sig := ((c : Thread nD τ), .reg barSem.sem)
abbrev dcell (a : Fin 4) (g : Fin 2) (r : Fin 7) (c : Dev nD) : GSem nD τ sig := ((c : Thread nD τ), .dma (dsem a g r))

abbrev Key : Type := Fin 4 × Fin 2 × Fin 7
abbrev kcell (k : Key) (c : Dev nD) : GSem nD τ sig := dcell k.1 k.2.1 k.2.2 c

/-- The credit of one half chunk. -/
abbrev N : ℕ := (rHalf 0).view.dmaCredit
theorem N_pos : 0 < N := View.dmaCredit_pos _ (by decide)

/-! ## The resource algebra -/

abbrev UU : Type := UR sig nD τ × URounds (GSem nD τ sig) (Fin 7)
local notation "𝕄" => MT nD τ sig Unit (Elt F) ℕ UU ℕ
abbrev EP : Emb (UR sig nD τ) (MT nD τ sig Unit (Elt F) ℕ UU ℕ) := embL
abbrev ER : Emb (URounds (GSem nD τ sig) (Fin 7)) (MT nD τ sig Unit (Elt F) ℕ UU ℕ) := embR

/-- A place owned at contents not chosen. -/
def anyAt {s : Shape} (c : Dev nD) (m : Memref sig .tc .vmem s .bf16) : sProp 𝕄 := iprop(∃ X, owns (c : Thread nD τ) m fullShare X)
instance anyAt_storable {s : Shape} (c : Dev nD) (m : Memref sig .tc .vmem s .bf16) : BI.Storable (upEmb : UEmb _ 𝕄) (anyAt (F := F) c m) := by
  unfold anyAt; infer_instance

/-- What allows device `fwd c k` to be sent a first-phase half by `c` (`slotFree`) and a second-phase half (`rowsFree`). -/
def slotFree (c : Dev nD) (g : Fin 2) (k : Fin 7) : sProp 𝕄 := iprop(anyAt (fwd c k) (sSlot g k) ∗ reached ER (dcell 1 g k (fwd c k)) 0)
def rowsFree (c : Dev nD) (g : Fin 2) (k : Fin 7) : sProp 𝕄 := iprop(anyAt (fwd c k) (oHalf c g) ∗ reached ER (dcell 3 g k (fwd c k)) 0)

/-- Paid to device `c`'s barrier by device `fwd c k`. -/
def barPay (c : Dev nD) (k : Fin 7) : sProp 𝕄 :=
  iprop((slotFree c 0 k ∗ slotFree c 1 k) ∗ rowsFree c 0 k ∗ rowsFree c 1 k)

/-- A share of a summed half, one for each copy that reads it. -/
def leafOf (r : Fin 7) : Fin (2 ^ 3) := ⟨r.val, by omega⟩
abbrev shareOf (r : Fin 7) : PosShare TreeShare := ShareLeaves.leaf 3 fullShare (leafOf r)

variable (J : Dev nD → Ins F)

/-- Paid to one of device `c`'s copy counters: the source back (sends), the destination filled (arrivals). -/
def dmaPay (c : Dev nD) (a : ℕ) (g : Fin 2) (r : Fin 7) : sProp 𝕄 :=
  if a = 0 then owns (c : Thread nD τ) (pHalf (fwd c r) g) fullShare (halfV (J c) (fwd c r) g)
  else if a = 1 then owns (c : Thread nD τ) (sSlot g r) fullShare (halfV (J (bwd c r)) c g)
  else if a = 2 then owns (c : Thread nD τ) (rHalf g) (shareOf r) (redV J c g)
  else owns (c : Thread nD τ) (oHalf (bwd c r) g) fullShare (redV J (bwd c r) g)

/-- One round on every counter: seven units on a barrier, one copy on each of the others. -/
def Rd : Rounds.Schedule (GSem nD τ sig) (Fin 7) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => N
  payload g _ d := match g.2 with
    | .reg _ => barPay g.1.1 d
    | .dma s => dmaPay J g.1.1 ((s.val - 6) / 14) ⟨(s.val - 6) / 7 % 2, Nat.mod_lt _ (by decide)⟩ ⟨(s.val - 6) % 7, Nat.mod_lt _ (by decide)⟩
  amount_pos g _ _ _ := by
    rcases g with ⟨t, s | s⟩
    · exact Nat.one_pos
    · exact N_pos

instance Rd_storable (g : GSem nD τ sig) (r : ℕ) (d : Fin 7) : BI.Storable (upEmb : UEmb _ 𝕄) ((Rd J).payload g r d) := by
  rcases g with ⟨t, s | s⟩
  · show BI.Storable upEmb (barPay t.1 d)
    unfold barPay slotFree rowsFree; infer_instance
  · show BI.Storable upEmb (dmaPay J t.1 ((s.val - 6) / 14) _ _)
    unfold dmaPay
    (repeat' split) <;> infer_instance

theorem duties_later (g : GSem nD τ sig) : ∀ r, 1 ≤ r → (Rd J).duties g r = ∅ := fun r hr => by
  dsimp only [Rd]; exact if_neg fun h => by omega

section
variable (c : Dev nD) (a : Fin 4) (g : Fin 2) (r : Fin 7)

theorem duties_bar : (Rd J).duties (barCell c) 0 = Finset.univ := by dsimp only [Rd]; exact if_pos ⟨rfl, rfl⟩
theorem duties_d : (Rd J).duties (dcell a g r c) 0 = {0} := by
  dsimp only [Rd]; rw [if_pos ⟨rfl, rfl⟩]; exact if_pos (by unfold dsem; dsimp only; omega)
theorem amount_bar (d : Fin 7) : (Rd J).amount (barCell c) 0 d = 1 := rfl
theorem amount_d (d : Fin 7) : (Rd J).amount (dcell a g r c) 0 d = N := rfl
theorem expect_bar : (Rd J).expect (barCell c) 0 = 7 := by
  unfold Schedule.expect Schedule.amountOf
  rw [duties_bar, Finset.sum_congr rfl fun d _ => amount_bar J c d]
  rfl
theorem expect_d : (Rd J).expect (dcell a g r c) 0 = N := by
  unfold Schedule.expect Schedule.amountOf; rw [duties_d, Finset.sum_singleton, amount_d]
theorem payload_bar (d : Fin 7) : (Rd J).payload (barCell c) 0 d = barPay c d := rfl
theorem payload_d (d : Fin 7) : (Rd J).payload (dcell a g r c) 0 d = dmaPay J c a.val g r := by
  have hg := g.isLt; have hr := r.isLt
  show dmaPay J c ((6 + 14 * a.val + 7 * g.val + r.val - 6) / 14) ⟨(6 + 14 * a.val + 7 * g.val + r.val - 6) / 7 % 2, _⟩ ⟨(6 + 14 * a.val + 7 * g.val + r.val - 6) % 7, _⟩ = _
  refine congr (congr (congrArg (dmaPay J c) ?_) (Fin.ext ?_)) (Fin.ext ?_)
  · omega
  · show (6 + 14 * a.val + 7 * g.val + r.val - 6) / 7 % 2 = g.val; omega
  · show (6 + 14 * a.val + 7 * g.val + r.val - 6) % 7 = r.val; omega
theorem rest_bar : bigSep ((Rd J).duties (barCell c) 0 \ ∅) (fun u => (Rd J).payload (barCell c) 0 u) = bigSep Finset.univ fun k => (barPay c k : sProp 𝕄) := by
  rw [Finset.sdiff_empty, duties_bar]; rfl
theorem rest_d : bigSep ((Rd J).duties (dcell a g r c) 0 \ ∅) (fun u => (Rd J).payload (dcell a g r c) 0 u) = dmaPay J c a.val g r := by
  rw [Finset.sdiff_empty, duties_d, bigSep_singleton, payload_d]
theorem pay_sent : dmaPay J c (0 : Fin 4).val g r = owns (c : Thread nD τ) (pHalf (fwd c r) g) fullShare (halfV (J c) (fwd c r) g) := if_pos rfl
theorem pay_arrived : dmaPay J c (1 : Fin 4).val g r = owns (c : Thread nD τ) (sSlot g r) fullShare (halfV (J (bwd c r)) c g) := rfl
theorem pay_shared : dmaPay J c (2 : Fin 4).val g r = owns (c : Thread nD τ) (rHalf g) (shareOf r) (redV J c g) := rfl
theorem pay_got : dmaPay J c (3 : Fin 4).val g r = owns (c : Thread nD τ) (oHalf (bwd c r) g) fullShare (redV J (bwd c r) g) := rfl
end

/-! ## Levels and what a device owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at 1, first-phase arrivals at 2, second-phase arrivals at 3, everything else at 0. -/
def lvS : SemLoc sig → ℕ
  | .reg _ => 1
  | .dma s => if 6 ≤ s.val then (if (s.val - 6) / 14 = 1 then 2 else if (s.val - 6) / 14 = 3 then 3 else 0) else 0
def lv (g : GSem nD τ sig) (_ : Unit) : ℕ := lvS g.2
theorem lvS_d : ∀ (a : Fin 4) (g : Fin 2) (r : Fin 7), lvS (.dma (dsem a g r)) = ![0, 2, 0, 3] a := by decide

def f7 (n : ℕ) : Fin 7 := ⟨n % 7, Nat.mod_lt _ (by decide)⟩

/-- The counter a device pays at its `n`-th payment, and how much. -/
def dueCell (c : Dev nD) (n : ℕ) : GSem nD τ sig :=
  match n / 7 with
  | 0 => barCell (fwd c (f7 n))
  | 1 => dcell 1 0 (f7 n) (fwd c (f7 n))
  | 2 => dcell 1 1 (f7 n) (fwd c (f7 n))
  | 3 => dcell 3 0 (f7 n) (fwd c (f7 n))
  | _ => dcell 3 1 (f7 n) (fwd c (f7 n))
def dueAmt (n : ℕ) : ℕ := if n < 7 then 1 else N
def due (c : Dev nD) (n : ℕ) : CellTallies nD τ sig Unit := tallyAt (dueCell c n) () (dueAmt n)

/-- What a device still owes after `n` payments. -/
def rem (c : Dev nD) (n : ℕ) : CellTallies nD τ sig Unit := ∑ i ∈ Finset.Ico n 35, due c i

theorem rem_succ (c : Dev nD) {n : ℕ} (h : n < 35) : rem c n = rem c (n + 1) + due c n := by
  unfold rem
  rw [show Finset.Ico n 35 = insert n (Finset.Ico (n + 1) 35) by
      ext i; simp only [Finset.mem_insert, Finset.mem_Ico]; omega,
    Finset.sum_insert (by simp), add_comm]
theorem rem_end (c : Dev nD) : rem c 35 = 0 := by unfold rem; simp

theorem f7_add (k : ℕ) (r : Fin 7) : f7 (7 * k + r.val) = r := by
  have := r.isLt; exact Fin.ext (by show (7 * k + r.val) % 7 = r.val; omega)
theorem due_bar (c : Dev nD) (r : Fin 7) : due c r.val = tallyAt (barCell (fwd c r)) () 1 := by
  have h := r.isLt
  have e : f7 r.val = r := by have := f7_add 0 r; rwa [Nat.mul_zero, Nat.zero_add] at this
  unfold due dueCell dueAmt; rw [if_pos h, e, show r.val / 7 = 0 by omega]; rfl
theorem due_send (c : Dev nD) (g : Fin 2) (r : Fin 7) : due c (7 + 7 * g.val + r.val) = tallyAt (dcell 1 g r (fwd c r)) () N := by
  have h := r.isLt
  fin_cases g
  · have e : f7 (7 + 7 * 0 + r.val) = r := f7_add 1 r
    unfold due dueCell dueAmt; dsimp only; rw [if_neg (by omega), e, show (7 + 7 * 0 + r.val) / 7 = 1 by omega]; rfl
  · have e : f7 (7 + 7 * 1 + r.val) = r := f7_add 2 r
    unfold due dueCell dueAmt; dsimp only; rw [if_neg (by omega), e, show (7 + 7 * 1 + r.val) / 7 = 2 by omega]; rfl
theorem due_share (c : Dev nD) (g : Fin 2) (r : Fin 7) : due c (21 + 7 * g.val + r.val) = tallyAt (dcell 3 g r (fwd c r)) () N := by
  have h := r.isLt
  fin_cases g
  · have e : f7 (21 + 7 * 0 + r.val) = r := f7_add 3 r
    unfold due dueCell dueAmt; dsimp only; rw [if_neg (by omega), e, show (21 + 7 * 0 + r.val) / 7 = 3 by omega]; rfl
  · have e : f7 (21 + 7 * 1 + r.val) = r := f7_add 4 r
    unfold due dueCell dueAmt; dsimp only; rw [if_neg (by omega), e, show (21 + 7 * 1 + r.val) / 7 = 4 by omega]; rfl

theorem rem_pos {c : Dev nD} {n : ℕ} {g : GSem nD τ sig} {u : Unit} (h : 0 < rem c n g u) : ∃ i, n ≤ i ∧ i < 35 ∧ g = dueCell c i := by
  unfold rem at h
  obtain ⟨i, hi, hp⟩ := Pipeline.sum_pos_exists h
  refine ⟨i, (Finset.mem_Ico.mp hi).1, (Finset.mem_Ico.mp hi).2, ?_⟩
  unfold due at hp; rw [tallyAt_apply] at hp
  by_contra hc
  rw [if_neg fun h => hc h.1] at hp
  exact absurd hp (Nat.lt_irrefl 0)

theorem dueCell_tc (c : Dev nD) (n : ℕ) : () ∈ L (dueCell c n) := by
  unfold dueCell
  split <;> (rw [L_tc]; exact Finset.mem_singleton_self _)
theorem dueCell_lv (c : Dev nD) (n : ℕ) : (if n < 7 then 1 else if n < 21 then 2 else 3) = lv (dueCell c n) () := by
  unfold dueCell lv
  by_cases h0 : n / 7 = 0
  · rw [if_pos (by omega), h0]; rfl
  by_cases h1 : n / 7 = 1
  · rw [if_neg (by omega), if_pos (by omega), h1]; exact (lvS_d 1 0 _).symm
  by_cases h2 : n / 7 = 2
  · rw [if_neg (by omega), if_pos (by omega), h2]; exact (lvS_d 1 1 _).symm
  by_cases h3 : n / 7 = 3
  · rw [if_neg (by omega), if_neg (by omega), h3]; exact (lvS_d 3 0 _).symm
  obtain ⟨k, hk⟩ : ∃ k, n / 7 = k + 4 := ⟨n / 7 - 4, by omega⟩
  rw [if_neg (by omega), if_neg (by omega), hk]; exact (lvS_d 3 1 _).symm

/-- A device may wait on a counter below everything it still owes. -/
theorem mayWait_rem (c : Dev nD) (sm : SemLoc sig) (n : ℕ) (h : ∀ i, n ≤ i → lvS sm < (if i < 7 then 1 else if i < 21 then 2 else 3)) :
    (levAts L lv : sProp 𝕄) ⊢ MayWait (c : Thread nD τ) sm () (rem c n) :=
  MayOwe.of_cut (L := L) (lev := lv) (lvS sm) (fun p hp => by rw [Finset.mem_singleton.mp hp, L_tc]; exact Finset.mem_singleton_self _)
    (fun g u hg => by obtain ⟨i, -, -, rfl⟩ := rem_pos hg; exact dueCell_tc c i)
    (fun p hp => by rw [Finset.mem_singleton.mp hp]; exact le_refl _)
    (fun g u hg => by
      obtain ⟨i, hi, -, rfl⟩ := rem_pos hg
      exact lt_of_lt_of_eq (h i hi) (dueCell_lv c i))

theorem mayWait_bar (c : Dev nD) : (levAts L lv : sProp 𝕄) ⊢ MayWait (c : Thread nD τ) (.reg barSem.sem) () (rem c 7) :=
  mayWait_rem c _ 7 fun i hi => by
    show 1 < _
    rw [if_neg (by omega)]; split <;> decide
theorem mayWait_arrived (c : Dev nD) (g : Fin 2) (r : Fin 7) {n : ℕ} (hn : 21 ≤ n) :
    (levAts L lv : sProp 𝕄) ⊢ MayWait (c : Thread nD τ) (.dma (dsem 1 g r)) () (rem c n) :=
  mayWait_rem c _ n fun i hi => by
    rw [lvS_d, if_neg (by omega), if_neg (by omega)]; decide

/-! ## The records every device may consult -/

/-- All counters' invariants, that every barrier is at its round 0, and the levels. -/
def known (K : GSem nD τ sig → ℕ) : sProp 𝕄 :=
  iprop((bigSep Finset.univ fun p : Dev nD => cellInv ER (Rd J) (K (barCell p)) (barCell p))
    ∗ (bigSep Finset.univ fun p : Dev nD => bigSep Finset.univ fun k : Key => cellInv ER (Rd J) (K (kcell k p)) (kcell k p))
    ∗ (bigSep Finset.univ fun p : Dev nD => reached ER (barCell p) 0) ∗ levAts L lv)
/-- That a device's own copy counters are open at round 0. -/
def openAt (c : Dev nD) : sProp 𝕄 := bigSep Finset.univ fun k : Key => reached ER (kcell k c) 0
def ctx (K : GSem nD τ sig → ℕ) (c : Dev nD) : sProp 𝕄 := iprop(known J K ∗ openAt c)

instance known_persistent (K : GSem nD τ sig → ℕ) : BI.Persistent (known J K) := by unfold known; infer_instance
instance openAt_persistent (c : Dev nD) : BI.Persistent (openAt (F := F) c) := by unfold openAt; infer_instance
instance ctx_persistent (K : GSem nD τ sig → ℕ) (c : Dev nD) : BI.Persistent (ctx J K c) := by unfold ctx; infer_instance

theorem bigSep_at {M : Type} [URA M] {I : Type} [Fintype I] [DecidableEq I] (Φ : I → sProp M) (i : I) : (bigSep Finset.univ Φ ⊢ Φ i) :=
  bigSep_elim (Finset.mem_univ i)

section
variable (K : GSem nD τ sig → ℕ) (c : Dev nD)
theorem ctx_bar (p : Dev nD) : ctx J K c ⊢ cellInv ER (Rd J) (K (barCell p)) (barCell p) := by
  unfold ctx known
  iintro ⟨⟨H, -, -, -⟩, -⟩
  iapply (bigSep_at (fun p : Dev nD => cellInv ER (Rd J) (K (barCell p)) (barCell p)) p) $$ H
theorem ctx_d (a : Fin 4) (g : Fin 2) (r : Fin 7) (p : Dev nD) : ctx J K c ⊢ cellInv ER (Rd J) (K (dcell a g r p)) (dcell a g r p) := by
  unfold ctx known
  iintro ⟨⟨-, H, -, -⟩, -⟩
  ihave H := (bigSep_at (fun p : Dev nD => bigSep Finset.univ fun k : Key => cellInv ER (Rd J) (K (kcell k p)) (kcell k p)) p) $$ H
  iapply (bigSep_at (fun k : Key => cellInv ER (Rd J) (K (kcell k p)) (kcell k p)) (a, g, r)) $$ H
theorem ctx_reached_bar (p : Dev nD) : ctx J K c ⊢ reached ER (barCell p) 0 := by
  unfold ctx known
  iintro ⟨⟨-, -, H, -⟩, -⟩
  iapply (bigSep_at (fun p : Dev nD => (reached ER (barCell p) 0 : sProp 𝕄)) p) $$ H
theorem ctx_lev : ctx J K c ⊢ levAts L lv := by
  unfold ctx known
  iintro ⟨⟨-, -, -, H⟩, -⟩
  iexact H
theorem ctx_reached (a : Fin 4) (g : Fin 2) (r : Fin 7) : ctx J K c ⊢ reached ER (dcell a g r c) 0 := by
  unfold ctx openAt
  iintro ⟨-, H⟩
  iapply (bigSep_at (fun k : Key => (reached ER (kcell k c) 0 : sProp 𝕄)) (a, g, r)) $$ H
end

/-! ## Families over the seven steps, part done and part to do -/

section Families
variable {M : Type} [URA M]
/-- The members from step `n` on. -/
def rest (Φ : Fin 7 → sProp M) (n : ℕ) : sProp M := bigSep (Finset.univ.filter fun r : Fin 7 => n ≤ r.val) Φ
/-- The members before step `n`. -/
def done (Φ : Fin 7 → sProp M) (n : ℕ) : sProp M := bigSep (Finset.univ.filter fun r : Fin 7 => r.val < n) Φ

theorem rest_all (Φ : Fin 7 → sProp M) : rest Φ 0 = bigSep Finset.univ Φ := by
  unfold rest; rw [show (Finset.univ.filter fun r : Fin 7 => 0 ≤ r.val) = Finset.univ by decide]
theorem rest_none (Φ : Fin 7 → sProp M) : rest Φ 7 = iprop(emp) := by
  unfold rest; rw [show (Finset.univ.filter fun r : Fin 7 => 7 ≤ r.val) = ∅ by decide]; exact bigSep_empty
theorem rest_step (Φ : Fin 7 → sProp M) (r : Fin 7) : rest Φ r.val = iprop(Φ r ∗ rest Φ (r.val + 1)) := by
  unfold rest
  rw [show (Finset.univ.filter fun s : Fin 7 => r.val ≤ s.val) = insert r (Finset.univ.filter fun s : Fin 7 => r.val + 1 ≤ s.val) by revert r; decide,
    bigSep_insert (by revert r; decide)]
  rfl
theorem done_none (Φ : Fin 7 → sProp M) : done Φ 0 = iprop(emp) := by
  unfold done; rw [show (Finset.univ.filter fun r : Fin 7 => r.val < 0) = ∅ by decide]; exact bigSep_empty
theorem done_all (Φ : Fin 7 → sProp M) : done Φ 7 = bigSep Finset.univ Φ := by
  unfold done; rw [show (Finset.univ.filter fun r : Fin 7 => r.val < 7) = Finset.univ by decide]
theorem done_step (Φ : Fin 7 → sProp M) (r : Fin 7) : done Φ (r.val + 1) = iprop(Φ r ∗ done Φ r.val) := by
  unfold done
  rw [show (Finset.univ.filter fun s : Fin 7 => s.val < r.val + 1) = insert r (Finset.univ.filter fun s : Fin 7 => s.val < r.val) by revert r; decide,
    bigSep_insert (by revert r; decide)]
  rfl
end Families

end Cert.KernelIdeal.Exchange
-- ==== Proof.Steps.lean ====
module

public import proofs.«01_k».proof.Proof.Cells

/-! The steps of the exchange: what each takes and what it leaves. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

abbrev 𝒱₀ : Variants := Variants.none

/-- A program of device `c`'s TensorCore runs to a state that meets `Q`. -/
abbrev Run (c : Dev nD) {A : Type} (p : Code F A) (Q : A → sProp 𝕄) : sProp 𝕄 :=
  wp frame (wpE (defs₀ (F := F)) 𝒱₀ (c : Thread nD τ) none) Set.univ p Q

/-! ## One program after another -/

section Chains
variable {c : Dev nD} {A B : Type} {P R : sProp (MT nD τ sig Unit (Elt F) ℕ UU ℕ)}

theorem run_seq {p : Code F A} {k : A → Code F B} {Q : B → sProp 𝕄} {S : A → sProp 𝕄} (h : P ⊢ Run c p S) :
    P ⊢ iprop((∀ a, S a -∗ Run c (k a) Q) -∗ Run c (p >>= k) Q) := by
  unfold Run
  rw [wp_bind]
  exact h.trans (wp_wand _ _ _)

theorem run_each7 [BI.Persistent P] (Φ : ℕ → sProp 𝕄) (f : Fin 7 → Code F PUnit)
    (h : ∀ r : Fin 7, iprop(P ∗ Φ r.val) ⊢ Run c (f r) (fun _ => Φ (r.val + 1))) :
    iprop(P ∗ Φ 0) ⊢ Run c (each7 f) (fun _ => Φ 7) := by
  unfold each7
  have h0 : iprop(P ∗ Φ 0) ⊢ Run c (f 0) (fun _ => Φ 1) := h 0
  have h1 : iprop(P ∗ Φ 1) ⊢ Run c (f 1) (fun _ => Φ 2) := h 1
  have h2 : iprop(P ∗ Φ 2) ⊢ Run c (f 2) (fun _ => Φ 3) := h 2
  have h3 : iprop(P ∗ Φ 3) ⊢ Run c (f 3) (fun _ => Φ 4) := h 3
  have h4 : iprop(P ∗ Φ 4) ⊢ Run c (f 4) (fun _ => Φ 5) := h 4
  have h5 : iprop(P ∗ Φ 5) ⊢ Run c (f 5) (fun _ => Φ 6) := h 5
  have h6 : iprop(P ∗ Φ 6) ⊢ Run c (f 6) (fun _ => Φ 7) := h 6
  iintro ⟨#HP, H⟩
  iapply (run_seq h0) $$ [H]
  · isplitr; · iexact HP
    iexact H
  iintro %_ H
  iapply (run_seq h1) $$ [H]
  · isplitr; · iexact HP
    iexact H
  iintro %_ H
  iapply (run_seq h2) $$ [H]
  · isplitr; · iexact HP
    iexact H
  iintro %_ H
  iapply (run_seq h3) $$ [H]
  · isplitr; · iexact HP
    iexact H
  iintro %_ H
  iapply (run_seq h4) $$ [H]
  · isplitr; · iexact HP
    iexact H
  iintro %_ H
  iapply (run_seq h5) $$ [H]
  · isplitr; · iexact HP
    iexact H
  iintro %_ H
  iapply h6 $$ [H]
  isplitr; · iexact HP
  iexact H

theorem run_keep7 [BI.Persistent P] (Φ : ℕ → sProp 𝕄) (f : Fin 7 → Code F A) (V : Fin 7 → A)
    (h : ∀ r : Fin 7, iprop(P ∗ Φ r.val) ⊢ Run c (f r) (fun a => iprop(⌜a = V r⌝ ∗ Φ (r.val + 1)))) :
    iprop(P ∗ Φ 0) ⊢ Run c (keep7 f) (fun s => iprop(⌜s = V⌝ ∗ Φ 7)) := by
  unfold keep7
  have h0 : iprop(P ∗ Φ 0) ⊢ Run c (f 0) (fun a => iprop(⌜a = V 0⌝ ∗ Φ 1)) := h 0
  have h1 : iprop(P ∗ Φ 1) ⊢ Run c (f 1) (fun a => iprop(⌜a = V 1⌝ ∗ Φ 2)) := h 1
  have h2 : iprop(P ∗ Φ 2) ⊢ Run c (f 2) (fun a => iprop(⌜a = V 2⌝ ∗ Φ 3)) := h 2
  have h3 : iprop(P ∗ Φ 3) ⊢ Run c (f 3) (fun a => iprop(⌜a = V 3⌝ ∗ Φ 4)) := h 3
  have h4 : iprop(P ∗ Φ 4) ⊢ Run c (f 4) (fun a => iprop(⌜a = V 4⌝ ∗ Φ 5)) := h 4
  have h5 : iprop(P ∗ Φ 5) ⊢ Run c (f 5) (fun a => iprop(⌜a = V 5⌝ ∗ Φ 6)) := h 5
  have h6 : iprop(P ∗ Φ 6) ⊢ Run c (f 6) (fun a => iprop(⌜a = V 6⌝ ∗ Φ 7)) := h 6
  iintro ⟨#HP, H⟩
  iapply (run_seq h0) $$ [H]
  · isplitr; · iexact HP
    iexact H
  iintro %a0 ⟨%e0, H⟩
  iapply (run_seq h1) $$ [H]
  · isplitr; · iexact HP
    iexact H
  iintro %a1 ⟨%e1, H⟩
  iapply (run_seq h2) $$ [H]
  · isplitr; · iexact HP
    iexact H
  iintro %a2 ⟨%e2, H⟩
  iapply (run_seq h3) $$ [H]
  · isplitr; · iexact HP
    iexact H
  iintro %a3 ⟨%e3, H⟩
  iapply (run_seq h4) $$ [H]
  · isplitr; · iexact HP
    iexact H
  iintro %a4 ⟨%e4, H⟩
  iapply (run_seq h5) $$ [H]
  · isplitr; · iexact HP
    iexact H
  iintro %a5 ⟨%e5, H⟩
  iapply (run_seq h6) $$ [H]
  · isplitr; · iexact HP
    iexact H
  iintro %a6 ⟨%e6, H⟩
  have e : (![a0, a1, a2, a3, a4, a5, a6] : Fin 7 → A) = V := by
    subst e0 e1 e2 e3 e4 e5 e6
    funext r; fin_cases r <;> rfl
  unfold Run
  iapply (show (iprop(⌜(![a0, a1, a2, a3, a4, a5, a6] : Fin 7 → A) = V⌝ ∗ Φ 7) : sProp 𝕄)
    ⊢ wp frame (wpE (defs₀ (F := F)) 𝒱₀ (c : Thread nD τ) none) Set.univ (.ret ![a0, a1, a2, a3, a4, a5, a6]) (fun s => iprop(⌜s = V⌝ ∗ Φ 7)) from by
      rw [wp_ret]; iintro H; imodintro; iexact H) $$ [H]
  isplitr; · ipureintro; exact e
  iexact H
end Chains

/-! ## Places split and joined, their contents not chosen -/

section Any
variable (c : Dev nD) {s : Shape} (m : Memref sig .tc .vmem s .bf16)

theorem any_intro (X : s.Idx → Elt F .bf16) : (owns (c : Thread nD τ) m fullShare X : sProp 𝕄) ⊢ anyAt c m := by
  unfold anyAt; iintro H; iexists X; iexact H

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

theorem any_rects : (anyAt c m : sProp 𝕄) ⊢ bigSep Finset.univ fun t => anyAt c (m.slice (r t) (hr t)) := by
  unfold anyAt
  iintro ⟨%X, H⟩
  have h : (owns (c : Thread nD τ) m fullShare X : sProp 𝕄)
      ⊢ bigSep Finset.univ fun t => iprop(∃ X, owns (c : Thread nD τ) (m.slice (r t) (hr t)) fullShare X) :=
    (owns_rects (c : Thread nD τ) m fullShare r hr hd hcov X).trans (bigSep_mono fun t _ => any_intro c (m.slice (r t) (hr t)) _)
  iapply h $$ H

theorem any_of_rects : (bigSep Finset.univ fun t => anyAt c (m.slice (r t) (hr t)) : sProp 𝕄) ⊢ anyAt c m := by
  have h1 : (bigSep Finset.univ fun t => anyAt c (m.slice (r t) (hr t)) : sProp 𝕄)
      ⊢ bigSep Finset.univ fun t => ownsSat (c : Thread nD τ) (m.slice (r t) (hr t)) fullShare (fun _ => True) :=
    bigSep_mono fun t _ => (ownsSat_true (c : Thread nD τ) (m.slice (r t) (hr t)) fullShare).2
  exact h1.trans ((ownsSat_of_rects (c : Thread nD τ) m fullShare r hr hd hcov (fun _ _ => True)).trans (ownsSat_any _ _ _))
end Any

/-- A chunk held at the parts of one contents is its two halves held at theirs, -/
theorem chunk_split (c : Dev nD) (d : Dev nD) (G : S512x512.Idx → Elt F .bf16) :
    (owns (c : Thread nD τ) (pM.slice (chunkRect d) (fun _ => rfl)) fullShare (fun j => G ((chunkRect d).emb j)) : sProp 𝕄)
      ⊢ iprop(owns (c : Thread nD τ) (pHalf d 0) fullShare (fun j => G ((halfRect d 0).emb j))
        ∗ owns (c : Thread nD τ) (pHalf d 1) fullShare (fun j => G ((halfRect d 1).emb j))) := by
  have hS (k : Fin 2) : (pHalf d k).view.set = (halfRect d k).set.map pM.view.emb := View.set_slice _ _
  have hC : (pM.slice (chunkRect d) (fun _ => rfl)).view.set = (chunkRect d).set.map pM.view.emb := View.set_slice _ _
  obtain ⟨f, rfl⟩ : ∃ f : pM.view.ty.Contents (Elt F), pM.view.read (Elt F) f = G :=
    ⟨pM.view.write (Elt F) (fun _ => Classical.arbitrary _) G Finset.univ, View.read_write_univ ..⟩
  have e0 := owns_eq_at (nD := nD) (τ := τ) (Ix := Unit) (Name := ℕ) (U := UU) (Lvl := ℕ) (c : Thread nD τ) (pM.slice (chunkRect d) (fun _ => rfl)) fullShare f
  have e1 (k : Fin 2) := owns_eq_at (nD := nD) (τ := τ) (Ix := Unit) (Name := ℕ) (U := UU) (Lvl := ℕ) (c : Thread nD τ) (pHalf d k) fullShare f
  have hU : (pM.slice (chunkRect d) (fun _ => rfl)).view.set = (pHalf d 0).view.set ∪ (pHalf d 1).view.set := by
    rw [hC, hS, hS, chunk_halves, Finset.map_union]
  have hD : Disjoint (pHalf d 0).view.set (pHalf d 1).view.set := by
    rw [hS, hS, Finset.disjoint_map]
    exact half_disj (d, 0) (d, 1) (fun h => (by decide : (0 : Fin 2) ≠ 1) (congrArg Prod.snd h))
  have hj := (pointsTo_union (nD := nD) (τ := τ) (sig := sig) (Ix := Unit) (Val := Elt F) (Name := ℕ) (U := UU) (Lvl := ℕ)
    (ℓ := pM.view.loc (c : Thread nD τ)) (q := fullShare) (f := f) hD).1
  rw [← hU] at hj
  exact (Entails.of_eq e0).trans (hj.trans (BI.sep_mono (Entails.of_eq (e1 0).symm) (Entails.of_eq (e1 1).symm)))

end Cert.KernelIdeal.Exchange
-- ==== Proof.Moves.lean ====
module

public import proofs.«01_k».proof.Proof.Steps

/-! What each communicating step of the exchange takes and what it leaves. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

/-! ## The printed offsets -/

theorem off1_eq : ∀ (d : Dev nD) (r : Fin 7), k0_off1 d (BitVec.ofNat 32 (1 + r.val)) = ![64 * (fwd d r).val, 0] := by decide +kernel
theorem off2_eq : ∀ (d : Dev nD) (r : Fin 7), k0_off2 d (BitVec.ofNat 32 (1 + r.val)) = ![64 * (fwd d r).val, 0] := by decide +kernel
theorem off3_eq : ∀ (d : Dev nD) (r : Fin 7), k0_off3 d (BitVec.ofNat 32 (1 + r.val)) = ![64 * (fwd d r).val + 32 * (0 : Fin 2).val, 0] := by decide +kernel
theorem off4_eq : ∀ (d : Dev nD) (r : Fin 7), k0_off4 d (BitVec.ofNat 32 (1 + r.val)) = ![64 * (fwd d r).val + 32 * (1 : Fin 2).val, 0] := by decide +kernel
theorem off5_eq : ∀ (d : Dev nD), k0_off5 d = ![64 * d.val, 0] := by decide +kernel
theorem off6_eq : ∀ (d : Dev nD) (g : Fin 2), k0_off6 d (BitVec.ofNat 32 (32 * g.val)) = ![64 * d.val + 32 * g.val, 0] := by decide +kernel
theorem off7_eq : ∀ (d : Dev nD) (g : Fin 2), k0_off7 d (BitVec.ofNat 32 (32 * g.val)) = ![64 * d.val + 32 * g.val, 0] := by decide +kernel
theorem off8_eq : ∀ (d : Dev nD) (g : Fin 2) (r : Fin 7),
    k0_off8 d (BitVec.ofNat 32 (1 + r.val)) (BitVec.ofNat 32 (32 * g.val)) = ![64 * (bwd d r).val + 32 * g.val, 0] := by decide +kernel

theorem slice_at {s : Shape} (m : Memref sig .tc .vmem s .bf16) {o o' : Fin s.rank → ℕ} {z : Fin s.rank → ℕ} (e : o = o') (h : ∀ a, o a + z a ≤ s.size a)
    (h' : ∀ a, o' a + z a ≤ s.size a) :
    m.slice (Rect.unit o z h) (fun _ => rfl) = m.slice (Rect.unit o' z h') (fun _ => rfl) := by subst e; rfl

theorem part_at (c : Dev nD) (g : Fin 2) (r : Fin 7) : partMem pM c g r = pHalf (fwd c r) g := by
  fin_cases g
  · exact slice_at pM (off3_eq c r) _ (half_inb (fwd c r) 0)
  · exact slice_at pM (off4_eq c r) _ (half_inb (fwd c r) 1)
theorem out_at (c : Dev nD) (g : Fin 2) : outMem oM c g = oHalf c g := slice_at oM (off7_eq c g) _ (half_inb c g)
theorem in_at (c : Dev nD) (g : Fin 2) (r : Fin 7) : inMem oM c g r = oHalf (bwd c r) g := slice_at oM (off8_eq c g r) _ (half_inb (bwd c r) g)
theorem slot_at (g : Fin 2) (r : Fin 7) : slotMem sM g r = sSlot g r := rfl
theorem red_at (g : Fin 2) : redMem rM g = rHalf g := rfl

/-! ## What a device holds while it communicates -/

variable (J : Dev nD → Ins F) (K : GSem nD τ sig → ℕ) (c : Dev nD)

/-- What is left to pay after `n` payments. -/
def ow (n : ℕ) : sProp 𝕄 := iprop(∃ W, owes (c : Thread nD τ) (rem c n) W)
abbrev cr (a : Fin 4) (g : Fin 2) (r : Fin 7) : sProp 𝕄 := cred (tallyAt (dcell a g r c) () N)
abbrev pos (a : Fin 4) (g : Fin 2) (r : Fin 7) : sProp 𝕄 := atPos ER (dcell a g r c) 0 ∅ 0
abbrev fin (a : Fin 4) (g : Fin 2) (r : Fin 7) : sProp 𝕄 := atPos ER (dcell a g r c) (0 + 1) ∅ 0
abbrev kept (g : Fin 2) (r : Fin 7) : sProp 𝕄 := owns (c : Thread nD τ) (pHalf (fwd c r) g) fullShare (halfV (J c) (fwd c r) g)
/-- The duties of a copy from `c` to `fwd c r`: on its send counter and on the arrival counter there. -/
abbrev tok (a b : Fin 4) (g : Fin 2) (r : Fin 7) : sProp 𝕄 := iprop(dutyTok ER (dcell a g r c) 0 (0 : Fin 7) ∗ dutyTok ER (dcell b g r (fwd c r)) 0 (0 : Fin 7))
abbrev sigRes (r : Fin 7) : sProp 𝕄 :=
  iprop(dutyTok ER (barCell (fwd c r)) 0 (rev r) ∗ (anyAt c (sSlot 0 (rev r)) ∗ anyAt c (sSlot 1 (rev r)))
    ∗ anyAt c (oHalf (fwd c r) 0) ∗ anyAt c (oHalf (fwd c r) 1))

variable {c} in
theorem run_done {A : Type} {Q : A → sProp 𝕄} (a : A) : Q a ⊢ Run c (.ret a : Code F A) Q := by
  unfold Run; rw [wp_ret]; iintro H; imodintro; iexact H

/-- The seven steps of a loop, each with its own resources and a state that all share. -/
theorem run_family (A B : Fin 7 → sProp 𝕄) (T : ℕ → sProp 𝕄) (f : Fin 7 → Code F PUnit)
    (h : ∀ r : Fin 7, iprop(ctx J K c ∗ A r ∗ T r.val) ⊢ Run c (f r) (fun _ => iprop(B r ∗ T (r.val + 1)))) :
    iprop(ctx J K c ∗ bigSep Finset.univ A ∗ T 0) ⊢ Run c (each7 f) (fun _ => iprop(bigSep Finset.univ B ∗ T 7)) := by
  have hs (r : Fin 7) : iprop(ctx J K c ∗ rest A r.val ∗ done B r.val ∗ T r.val)
      ⊢ Run c (f r) (fun _ => iprop(rest A (r.val + 1) ∗ done B (r.val + 1) ∗ T (r.val + 1))) := by
    rw [rest_step, done_step]
    iintro ⟨#HC, ⟨HA, HR⟩, HD, HT⟩
    have hk := run_seq (Q := fun _ => iprop(rest A (r.val + 1) ∗ (B r ∗ done B r.val) ∗ T (r.val + 1))) (k := fun _ : PUnit => (.ret ⟨⟩ : Code F PUnit)) (h r)
    rw [show (f r >>= fun _ => (.ret ⟨⟩ : Code F PUnit)) = f r from Prog.bind_pure _] at hk
    iapply hk $$ [HA HT]
    · isplitr; · iexact HC
      isplitl [HA] <;> iassumption
    iintro %_ ⟨HB, HT⟩
    iapply (run_done (c := c) (Q := fun _ : PUnit => iprop(rest A (r.val + 1) ∗ (B r ∗ done B r.val) ∗ T (r.val + 1))) PUnit.unit)
    isplitl [HR]; · iexact HR
    isplitl [HB HD]
    · isplitl [HB] <;> iassumption
    iexact HT
  have h7 := run_each7 (P := ctx J K c) (fun n => iprop(rest A n ∗ done B n ∗ T n)) f hs
  have e : ∀ X : sProp 𝕄, iprop(emp ∗ X) = X := fun X => BI.equiv_iff.mp BI.emp_sep
  simp only [rest_all, rest_none, done_none, done_all, e] at h7
  exact h7

theorem run_family_keep {E : Type} (A B : Fin 7 → sProp 𝕄) (T : ℕ → sProp 𝕄) (f : Fin 7 → Code F E) (V : Fin 7 → E)
    (h : ∀ r : Fin 7, iprop(ctx J K c ∗ A r ∗ T r.val) ⊢ Run c (f r) (fun a => iprop(⌜a = V r⌝ ∗ B r ∗ T (r.val + 1)))) :
    iprop(ctx J K c ∗ bigSep Finset.univ A ∗ T 0) ⊢ Run c (keep7 f) (fun s => iprop(⌜s = V⌝ ∗ bigSep Finset.univ B ∗ T 7)) := by
  have hs (r : Fin 7) : iprop(ctx J K c ∗ rest A r.val ∗ done B r.val ∗ T r.val)
      ⊢ Run c (f r) (fun a => iprop(⌜a = V r⌝ ∗ rest A (r.val + 1) ∗ done B (r.val + 1) ∗ T (r.val + 1))) := by
    rw [rest_step, done_step]
    iintro ⟨#HC, ⟨HA, HR⟩, HD, HT⟩
    have hk := run_seq (Q := fun a => iprop(⌜a = V r⌝ ∗ rest A (r.val + 1) ∗ (B r ∗ done B r.val) ∗ T (r.val + 1))) (k := fun a : E => (.ret a : Code F E)) (h r)
    rw [show (f r >>= fun a => (.ret a : Code F E)) = f r from Prog.bind_pure _] at hk
    iapply hk $$ [HA HT]
    · isplitr; · iexact HC
      isplitl [HA] <;> iassumption
    iintro %a ⟨%e, HB, HT⟩
    iapply (run_done (c := c) (Q := fun a : E => iprop(⌜a = V r⌝ ∗ rest A (r.val + 1) ∗ (B r ∗ done B r.val) ∗ T (r.val + 1))) a)
    isplitr; · ipureintro; exact e
    isplitl [HR]; · iexact HR
    isplitl [HB HD]
    · isplitl [HB] <;> iassumption
    iexact HT
  have h7 := run_keep7 (P := ctx J K c) (fun n => iprop(rest A n ∗ done B n ∗ T n)) f V hs
  have e : ∀ X : sProp 𝕄, iprop(emp ∗ X) = X := fun X => BI.equiv_iff.mp BI.emp_sep
  simp only [rest_all, rest_none, done_none, done_all, e] at h7
  exact h7

/-! ## The barrier -/

theorem run_sig (r : Fin 7) : iprop(ctx J K c ∗ sigRes c r ∗ ow c r.val) ⊢ Run c (sigStep (F := F) c r) (fun _ => iprop(emp ∗ ow c (r.val + 1))) := by
  have hlt : r.val < 35 := by omega
  unfold sigStep semSignalWord ow Run
  rw [devSig_eq]
  have hp : iprop((anyAt c (sSlot 0 (rev r)) ∗ anyAt c (sSlot 1 (rev r))) ∗ (anyAt c (oHalf (fwd c r) 0) ∗ anyAt c (oHalf (fwd c r) 1)) ∗ ctx J K c)
      ⊢ (Rd J).payload (barCell (fwd c r)) 0 (rev r) := by
    rw [payload_bar]; unfold barPay slotFree rowsFree; rw [fwd_fwd_rev]
    iintro ⟨⟨H0, H1⟩, ⟨H2, H3⟩, #HC⟩
    isplitl [H0 H1]
    · isplitl [H0]
      · isplitl [H0]; · iexact H0
        iapply (ctx_reached J K c 1 0 (rev r)) $$ HC
      · isplitl [H1]; · iexact H1
        iapply (ctx_reached J K c 1 1 (rev r)) $$ HC
    isplitl [H2]
    · isplitl [H2]; · iexact H2
      iapply (ctx_reached J K c 3 0 (rev r)) $$ HC
    · isplitl [H3]; · iexact H3
      iapply (ctx_reached J K c 3 1 (rev r)) $$ HC
  iintro ⟨#HC, ⟨HT, ⟨HS, HO⟩⟩, ⟨%W, HW⟩⟩
  iapply (Rounds.wp_signal 𝒱₀ ER (Rd J) (c : Thread nD τ) none (dst := (fwd c r : Thread nD τ)) (κ := K (barCell (fwd c r)))
      (d := rev r) (by rw [duties_bar]; exact Finset.mem_univ _) ((amount_bar J (fwd c r) (rev r)).trans (by decide)) ()
      (O₀ := rem c r.val) (rem c (r.val + 1)) (by rw [rem_succ c hlt, due_bar]; rfl)) $$ [HT HS HO HW]
  · isplitr; · iapply (ctx_bar J K c (fwd c r)) $$ HC
    isplitl [HW]; · iexact HW
    isplitl [HT]; · iexact HT
    isplitl [HS HO]
    · iapply hp
      isplitl [HS]; · iexact HS
      isplitl [HO]; · iexact HO
      iexact HC
    iapply (ctx_reached_bar J K c (fwd c r)) $$ HC
  iintro HW
  rw [wp_ret]; imodintro
  isplitr; · iempintro
  iexists W; iexact HW

theorem run_barrier : iprop(ctx J K c ∗ (atPos ER (barCell c) 0 ∅ 0 ∗ cred (tallyAt (barCell c) () 7)) ∗ ow c 7)
    ⊢ Run c (semWaitWord barSem.sem 7#32 : Code F PUnit) (fun _ => iprop(atPos ER (barCell c) (0 + 1) ∅ 0
      ∗ (bigSep Finset.univ fun k => (barPay c k : sProp 𝕄)) ∗ ow c 7)) := by
  unfold semWaitWord ow Run
  iintro ⟨#HC, ⟨HP, HR⟩, ⟨%W, HW⟩⟩
  iapply (Rounds.wp_wait_rest_token 𝒱₀ ER (Rd J) (c : Thread nD τ) none (κ := K (barCell c)) (k' := 7)
      (wpE_semWait_eq 𝒱₀ (c : Thread nD τ) none Set.univ) (Set.mem_univ _) () (O := rem c 7) (W := W) (R := 0) (m := 0) (T := ∅)
      (by rw [expect_bar])) $$ [HP HR HW]
  · isplitr; · iapply (ctx_bar J K c c) $$ HC
    isplitl [HR]; · iexact HR
    isplitl [HW]; · iexact HW
    isplitr
    · iapply (mayWait_bar c); iapply (ctx_lev J K c) $$ HC
    iexact HP
  iintro ⟨HW, HP, -, HB⟩
  rw [wp_ret]; imodintro
  isplitl [HP]; · iexact HP
  isplitl [HB]
  · iapply (Entails.of_eq (rest_bar J c)) $$ HB
  iexists _; iexact HW

/-! ## Waits on copies -/

theorem run_wait (a : Fin 4) (g : Fin 2) (r : Fin 7) (n : ℕ) {sp sp' : Space} {s s' : Shape} {e e' : EltTy} {q : DmaSem sig} (hq : q = dsem a g r)
    {src : Memref sig .tc sp' s' e'} {dst : Memref sig .tc sp s e} {hs : src.view.WordExact} {hd : dst.view.WordExact}
    (hN : dst.view.dmaCredit = N) (hw : (levAts L lv : sProp 𝕄) ⊢ MayWait (c : Thread nD τ) (.dma (dsem a g r)) () (rem c n)) :
    iprop(ctx J K c ∗ (pos c a g r ∗ cr c a g r) ∗ ow c n)
      ⊢ Run c (Prog.lift (.waitDma2 q src dst hs hd) : Code F PUnit) (fun _ => iprop((fin c a g r ∗ dmaPay J c a.val g r) ∗ ow c n)) := by
  subst hq
  unfold ow Run Prog.lift
  iintro ⟨#HC, ⟨HP, HR⟩, ⟨%W, HW⟩⟩
  have hR : (cred (tallyAt (dcell a g r c) () N) : sProp 𝕄) ⊢ cred (tallyAt (dcell a g r c) () dst.view.dmaCredit) := by rw [hN]
  iapply (Rounds.wp_wait_rest_token 𝒱₀ ER (Rd J) (c : Thread nD τ) none (κ := K (dcell a g r c))
      (wpE_waitDma2_eq (src := src) (dst := dst) 𝒱₀ (c : Thread nD τ) none Set.univ) (Set.mem_univ _) () (O := rem c n) (W := W) (R := 0) (m := 0) (T := ∅)
      (by rw [expect_d, Nat.zero_add, hN])) $$ [HP HR HW]
  · isplitr; · iapply (ctx_d J K c a g r c) $$ HC
    isplitl [HR]; · iapply hR $$ HR
    isplitl [HW]; · iexact HW
    isplitr
    · iapply hw; iapply (ctx_lev J K c) $$ HC
    iexact HP
  iintro ⟨HW, HP, -, HB⟩
  rw [wp_ret]; imodintro
  isplitl [HP HB]
  · isplitl [HP]; · iexact HP
    iapply (Entails.of_eq (rest_d J c a g r)) $$ HB
  iexists _; iexact HW

theorem mayWait_end (sm : SemLoc sig) : (levAts L lv : sProp 𝕄) ⊢ MayWait (c : Thread nD τ) sm () (rem c 35) := by
  rw [rem_end, MayWait_zero]; iintro -; iempintro

theorem run_sent (g : Fin 2) (r : Fin 7) {h7 h8} : iprop(ctx J K c ∗ (pos c 0 g r ∗ cr c 0 g r) ∗ ow c 35)
    ⊢ Run c (sentStep (F := F) pM h7 sM h8 cc0_scratch4 c g r) (fun _ => iprop((fin c 0 g r ∗ kept J c g r) ∗ ow c 35)) := by
  have h := run_wait J K c 0 g r 35 (semAt_0 g r) (src := slotMem sM g r) (dst := partMem pM c g r) (hs := slotMem_words sM h8 g r) (hd := partMem_words pM h7 c g r)
    (by rw [part_at]) (mayWait_end c _)
  rw [pay_sent] at h
  exact h
theorem run_got (g : Fin 2) (r : Fin 7) {h5 h9} : iprop(ctx J K c ∗ (pos c 3 g r ∗ cr c 3 g r) ∗ ow c 35)
    ⊢ Run c (gotStep (F := F) oM h5 rM h9 cc0_scratch7 c g r)
      (fun _ => iprop((fin c 3 g r ∗ owns (c : Thread nD τ) (oHalf (bwd c r) g) fullShare (redV J (bwd c r) g)) ∗ ow c 35)) := by
  have h := run_wait J K c 3 g r 35 (semAt_3 g r) (src := redMem rM g) (dst := inMem oM c g r) (hs := redMem_words rM h9 g) (hd := inMem_words oM h5 c g r)
    (by rw [in_at]) (mayWait_end c _)
  rw [pay_got] at h
  exact h
theorem run_shared (g : Fin 2) (r : Fin 7) {h5 h9} : iprop(ctx J K c ∗ (pos c 2 g r ∗ cr c 2 g r) ∗ ow c 35)
    ⊢ Run c (sharedStep (F := F) oM h5 rM h9 cc0_scratch6 c g r)
      (fun _ => iprop((fin c 2 g r ∗ owns (c : Thread nD τ) (rHalf g) (shareOf r) (redV J c g)) ∗ ow c 35)) := by
  have h := run_wait J K c 2 g r 35 (semAt_2 g r) (src := outMem oM c g) (dst := redMem rM g) (hs := outMem_words oM h5 c g) (hd := redMem_words rM h9 g)
    rfl (mayWait_end c _)
  rw [pay_shared] at h
  exact h

theorem run_recv (g : Fin 2) (r : Fin 7) (n : ℕ) (hn : 21 ≤ n) {h7 h8} : iprop(ctx J K c ∗ (pos c 1 g r ∗ cr c 1 g r) ∗ ow c n)
    ⊢ Run c (recvStep (F := F) pM h7 sM h8 cc0_scratch5 c g r)
      (fun a => iprop(⌜a = slotV (halfV (J (bwd c r)) c g)⌝ ∗ (fin c 1 g r ∗ anyAt c (sPlace g r)) ∗ ow c n)) := by
  have h := run_wait J K c 1 g r n (semAt_1 g r) (src := partMem pM c g r) (dst := slotMem sM g r) (hs := partMem_words pM h7 c g r) (hd := slotMem_words sM h8 g r)
    rfl (mayWait_arrived c g r hn)
  rw [pay_arrived] at h
  unfold recvStep
  iintro H
  iapply (run_seq h) $$ H
  iintro %_ ⟨⟨HF, HS⟩, HO⟩
  have hs := owns_squeeze_out (nD := nD) (τ := τ) (Ix := Unit) (Name := ℕ) (U := UU) (Lvl := ℕ) (c : Thread nD τ) (sPlace g r) squeezes_S1x1x32x512_S32x512 fullShare
    (slotV (halfV (J (bwd c r)) c g))
  rw [slotV_squeeze] at hs
  ihave HS := hs $$ HS
  unfold Run Prog.lift
  iapply (wp_load_slice 𝒱₀ (c : Thread nD τ) none Set.univ (m := sM) (r := slotPlace g r) (fun _ => rfl)) $$ HS
  iintro HS
  rw [wp_ret]; imodintro
  isplitr; · ipureintro; rfl
  isplitl [HF HS]
  · isplitl [HF]; · iexact HF
    iapply (any_intro c (sPlace g r) _) $$ HS
  iexact HO

/-! ## Copies -/

theorem run_copy (a b : Fin 4) (g : Fin 2) (r : Fin 7) (n : ℕ) (hn : n < 35) (hdue : due c n = tallyAt (dcell b g r (fwd c r)) () N)
    {q : PosShare TreeShare} {X : S32x512.Idx → Elt F .bf16} {src dst src' dst' : Memref sig .tc .vmem S32x512 .bf16} (e1 : src = src') (e2 : dst = dst')
    {d : Dev nD} (ed : d = fwd c r) {sS sR : DmaSem sig} (eS : sS = dsem a g r) (eR : sR = dsem b g r)
    {hsc hs hd ht} (hN : dst'.view.dmaCredit = N)
    (hp1 : (owns (c : Thread nD τ) src' q X : sProp 𝕄) ⊢ dmaPay J c a.val g r)
    (hp2 : (owns (fwd c r : Thread nD τ) dst' fullShare X : sProp 𝕄) ⊢ dmaPay J (fwd c r) b.val g r) :
    iprop(ctx J K c ∗ (tok c a b g r ∗ (anyAt (fwd c r) dst' ∗ reached ER (dcell b g r (fwd c r)) 0) ∗ owns (c : Thread nD τ) src' q X) ∗ ow c n)
      ⊢ Run c (Prog.lift (.enqueueDma src (.remote (Dev.tc d) dst (.dma sS) hsc) (.dma sR) hs hd ht) : Code F PUnit)
        (fun _ => iprop(cr c a g r ∗ ow c (n + 1))) := by
  subst e1 e2 ed eS eR
  unfold ow Run Prog.lift anyAt
  iintro ⟨#HC, ⟨⟨HT1, HT2⟩, ⟨⟨%Y, HD⟩, HRe⟩, HS⟩, ⟨%W, HW⟩⟩
  iapply (wp_send_owns 𝒱₀ (c : Thread nD τ) none ER (Rd J) (X := X) (Y := Y) (q := q) (r₁ := 0) (r₂ := 0) (d₁ := 0) (d₂ := 0)
      (κ₁ := K (dcell a g r c)) (κ₂ := K (dcell b g r (fwd c r))) (W := W)
      (by rw [duties_d]; exact Finset.mem_singleton_self _) (by rw [duties_d]; exact Finset.mem_singleton_self _) () () N (show dst.view.amount (.dma (dsem b g r)) = N from hN)
      (amount_d J c a g r 0) (amount_d J (fwd c r) b g r 0) (O₀ := rem c n) (rem c (n + 1)) (by rw [rem_succ c hn, hdue])
      (by rw [payload_d]; exact hp1) (by rw [payload_d]; exact hp2) (by routes)) $$ [HT1 HT2 HD HRe HS HW]
  · isplitr; · iapply (ctx_d J K c a g r c) $$ HC
    isplitr; · iapply (ctx_d J K c b g r (fwd c r)) $$ HC
    isplitl [HS]; · iexact HS
    isplitl [HD]; · iexact HD
    isplitl [HW]; · iexact HW
    isplitl [HT1]; · iexact HT1
    isplitr; · iapply (ctx_reached J K c a g r) $$ HC
    isplitl [HT2]; · iexact HT2
    iexact HRe
  iintro ⟨HR, HW⟩
  rw [wp_ret]; imodintro
  isplitl [HR]; · iexact HR
  iexists W; iexact HW

theorem run_send (g : Fin 2) (r : Fin 7) {h7 h8} :
    iprop(ctx J K c ∗ (tok c 0 1 g r ∗ slotFree c g r ∗ kept J c g r) ∗ ow c (7 + 7 * g.val + r.val))
      ⊢ Run c (sendStep (F := F) pM h7 sM h8 cc0_scratch4 cc0_scratch5 c g r) (fun _ => iprop(cr c 0 g r ∗ ow c (7 + 7 * g.val + r.val + 1))) :=
  run_copy J K c 0 1 g r _ (by omega) (due_send c g r) (part_at c g r) (slot_at g r) (devSend_eq c g r) (semAt_0 g r) (semAt_1 g r) rfl
    (by rw [pay_sent]) (by rw [pay_arrived, bwd_fwd])
theorem run_share (g : Fin 2) (r : Fin 7) {h5 h9} :
    iprop(ctx J K c ∗ (tok c 2 3 g r ∗ rowsFree c g r ∗ owns (c : Thread nD τ) (rHalf g) (shareOf r) (redV J c g)) ∗ ow c (21 + 7 * g.val + r.val))
      ⊢ Run c (shareStep (F := F) oM h5 rM h9 cc0_scratch6 cc0_scratch7 c g r) (fun _ => iprop(cr c 2 g r ∗ ow c (21 + 7 * g.val + r.val + 1))) :=
  run_copy J K c 2 3 g r _ (by omega) (due_share c g r) (red_at g) (out_at c g) (devOut_eq c g r) (semAt_2 g r) (semAt_3 g r) rfl
    (by rw [pay_shared]) (by rw [pay_got, bwd_fwd])

end Cert.KernelIdeal.Exchange
-- ==== Proof.Local.lean ====
module

public import proofs.«01_k».proof.Proof.Moves

/-! The computing steps of the exchange, and its buffers taken apart and put together again. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

abbrev xM : Memref sig .tc .vmem S512x512 .bf16 := Memref.whole cc0_stg0_0
abbrev qM : Memref sig .tc .vmem S512x256 .bf16 := Memref.whole cc0_stg1_0
abbrev kM : Memref sig .tc .vmem S4x2x256x64 .bf16 := Memref.whole cc0_stg2_0
abbrev vM : Memref sig .tc .vmem S4x2x256x64 .bf16 := Memref.whole cc0_stg3_0
abbrev wM : Memref sig .tc .vmem S256x512 .bf16 := Memref.whole cc0_stg4_0

abbrev cHead (b : Fin 2) (h : Fin 4) : Memref sig .tc .vmem S256x64 .bf16 := cM.slice (headRect b h) (fun _ => rfl)
abbrev pChunk (d : Dev nD) : Memref sig .tc .vmem S64x512 .bf16 := pM.slice (chunkRect d) (fun _ => rfl)

variable (J : Dev nD → Ins F) (K : GSem nD τ sig → ℕ) (c : Dev nD)

/-- Loading all of an array. -/
theorem all_emb {A : Type} {n0 n1 : ℕ} (X : Shape.Idx ⟨2, ![n0, n1]⟩ → A) (h) :
    (fun j => X ((Rect.unit (s := ⟨2, ![n0, n1]⟩) ![0, 0] ![n0, n1] h).emb j)) = X := by
  funext j
  refine congrArg X (funext fun a => Fin.ext ?_)
  fin_cases a
  · show 0 + 1 * (j 0).val = (j 0).val; omega
  · show 0 + 1 * (j 1).val = (j 1).val; omega

/-! ## Computing steps -/

section
variable (I : Ins F)

theorem run_head (b : Fin 2) (h : Fin 4) {h6} :
    iprop((owns (c : Thread nD τ) kM fullShare I.k ∗ owns (c : Thread nD τ) vM fullShare I.v) ∗ anyAt c (cHead b h))
      ⊢ Run c (headStep (F := F) kM vM cM h6 (k0_pay1 I.x I.wq) b h)
        (fun _ => iprop((owns (c : Thread nD τ) kM fullShare I.k ∗ owns (c : Thread nD τ) vM fullShare I.v)
          ∗ owns (c : Thread nD τ) (cHead b h) fullShare (headV I b h))) := by
  unfold headStep anyAt Run
  simp only [Prog.lift, Prog.bind_op, Prog.bind_ret]
  iintro ⟨⟨HK, HV⟩, ⟨%X, HC⟩⟩
  iapply (wp_load_part 𝒱₀ (c : Thread nD τ) none Set.univ (m := kM) (r := kvRect b h)) $$ HK
  iintro HK
  iapply (wp_load_part 𝒱₀ (c : Thread nD τ) none Set.univ (m := vM) (r := kvRect b h)) $$ HV
  iintro HV
  iapply (wp_load_slice 𝒱₀ (c : Thread nD τ) none Set.univ (m := cM) (r := headRect b h) (fun _ => rfl)) $$ HC
  iintro HC
  iapply (wp_store_slice 𝒱₀ (c : Thread nD τ) none Set.univ (m := cM) (r := headRect b h) (fun _ => rfl)) $$ HC
  iintro HC
  rw [wp_ret]; imodintro
  isplitl [HK HV]
  · isplitl [HK] <;> iassumption
  iexact HC

theorem run_chunk_at (d : Dev nD) {o1 o2 : Fin 2 → ℕ} (e1 : o1 = ![64 * d.val, 0]) (e2 : o2 = ![64 * d.val, 0]) {i1 i2 l1 l2 l3 x1 x2} :
    iprop((owns (c : Thread nD τ) cM fullShare (ctxV I) ∗ owns (c : Thread nD τ) wM fullShare I.wo) ∗ anyAt c (pChunk d))
      ⊢ Run c (do
          let x : Vec F S64x256 .bf16 ← Prog.lift (.load cM (Rect.unit (s := S512x256) o1 S64x256.size i1).toLoadRect l1)
          let w : Vec F S256x512 .bf16 ← Prog.lift (.load wM (Rect.unit (s := S256x512) ![0, 0] S256x512.size inb_S256x512_S256x512_0_0).toLoadRect l2)
          let _o : Vec F S64x512 .bf16 ← Prog.lift (.load pM (Rect.unit (s := S512x512) o2 S64x512.size i2).toLoadRect l3)
          Prog.lift (.store pM (Rect.unit (s := S512x512) o2 S64x512.size i2) (k0_pay19 x w) Finset.univ x1 x2) : Code F PUnit)
        (fun _ => iprop((owns (c : Thread nD τ) cM fullShare (ctxV I) ∗ owns (c : Thread nD τ) wM fullShare I.wo)
          ∗ owns (c : Thread nD τ) (pChunk d) fullShare (chunkV I d))) := by
  subst e1 e2
  unfold anyAt Run
  simp only [Prog.lift, Prog.bind_op, Prog.bind_ret]
  iintro ⟨⟨HC, HW⟩, ⟨%X, HP⟩⟩
  iapply (wp_load_part 𝒱₀ (c : Thread nD τ) none Set.univ (m := cM) (r := rowsRect d)) $$ HC
  iintro HC
  iapply (wp_load_part 𝒱₀ (c : Thread nD τ) none Set.univ (m := wM) (r := Rect.unit (s := S256x512) ![0, 0] S256x512.size inb_S256x512_S256x512_0_0)) $$ HW
  iintro HW
  rw [all_emb]
  iapply (wp_load_slice 𝒱₀ (c : Thread nD τ) none Set.univ (m := pM) (r := chunkRect d) (fun _ => rfl)) $$ HP
  iintro HP
  iapply (wp_store_slice 𝒱₀ (c : Thread nD τ) none Set.univ (m := pM) (r := chunkRect d) (fun _ => rfl)) $$ HP
  iintro HP
  rw [wp_ret]; imodintro
  isplitl [HC HW]
  · isplitl [HC] <;> iassumption
  iexact HP

theorem run_chunk (r : Fin 7) {h7} :
    iprop((owns (c : Thread nD τ) cM fullShare (ctxV I) ∗ owns (c : Thread nD τ) wM fullShare I.wo) ∗ anyAt c (pChunk (fwd c r)))
      ⊢ Run c (chunkStep (F := F) wM cM pM h7 c r)
        (fun _ => iprop((owns (c : Thread nD τ) cM fullShare (ctxV I) ∗ owns (c : Thread nD τ) wM fullShare I.wo)
          ∗ owns (c : Thread nD τ) (pHalf (fwd c r) 0) fullShare (halfV I (fwd c r) 0)
          ∗ owns (c : Thread nD τ) (pHalf (fwd c r) 1) fullShare (halfV I (fwd c r) 1))) := by
  have h := run_chunk_at c I (fwd c r) (off1_eq c r) (off2_eq c r) (i1 := k0_off1_inb c r) (i2 := k0_off2_inb c r) (l1 := View.loadsAt_vmem h_S64x256)
    (l2 := View.loadsAt_vmem h_S256x512) (l3 := View.loadsAt_vmem h_S64x512)
    (x1 := View.stores_vmem h_S64x512 (h7.storeExact_slice rfl _ (k0_off2_packedbf16 c r)) (fun _ => rfl)) (x2 := .inl rfl)
  refine h.trans ?_
  unfold Run
  refine wp_mono frame (wpE (defs₀ (F := F)) 𝒱₀ (c : Thread nD τ) none) Set.univ fun _ => ?_
  have hs := chunk_split c (fwd c r) (partV I)
  rw [partV_chunk] at hs
  iintro ⟨H, HP⟩
  isplitl [H]; · iexact H
  iapply hs $$ HP

theorem run_reduce_at (g : Fin 2) {o : Fin 2 → ℕ} (e : o = ![64 * c.val + 32 * g.val, 0]) (X : FVec F S32x512 .bf16) {i l1 l2 l3 x1 x2 x3 x4} :
    iprop(anyAt c (rHalf g) ∗ anyAt c (oHalf c g))
      ⊢ Run c (do
          let _o : Vec F S32x512 .bf16 ← Prog.lift (.load rM (Rect.unit (s := S64x512) ![32 * g.val, 0] S32x512.size (red_inb g)).toLoadRect l1)
          Prog.lift (.store rM (Rect.unit (s := S64x512) ![32 * g.val, 0] S32x512.size (red_inb g)) X Finset.univ x1 x2)
          let w : Vec F S32x512 .bf16 ← Prog.lift (.load rM (Rect.unit (s := S64x512) ![32 * g.val, 0] S32x512.size (red_inb g)).toLoadRect l2)
          let _o' : Vec F S32x512 .bf16 ← Prog.lift (.load oM (Rect.unit (s := S512x512) o S32x512.size i).toLoadRect l3)
          Prog.lift (.store oM (Rect.unit (s := S512x512) o S32x512.size i) w Finset.univ x3 x4) : Code F PUnit)
        (fun _ => iprop(owns (c : Thread nD τ) (rHalf g) fullShare X ∗ owns (c : Thread nD τ) (oHalf c g) fullShare X)) := by
  subst e
  unfold anyAt Run
  simp only [Prog.lift, Prog.bind_op, Prog.bind_ret]
  iintro ⟨⟨%A, HR⟩, ⟨%B, HO⟩⟩
  iapply (wp_load_slice 𝒱₀ (c : Thread nD τ) none Set.univ (m := rM) (r := redRect g) (fun _ => rfl)) $$ HR
  iintro HR
  iapply (wp_store_slice 𝒱₀ (c : Thread nD τ) none Set.univ (m := rM) (r := redRect g) (fun _ => rfl)) $$ HR
  iintro HR
  iapply (wp_load_slice 𝒱₀ (c : Thread nD τ) none Set.univ (m := rM) (r := redRect g) (fun _ => rfl)) $$ HR
  iintro HR
  iapply (wp_load_slice 𝒱₀ (c : Thread nD τ) none Set.univ (m := oM) (r := halfRect c g) (fun _ => rfl)) $$ HO
  iintro HO
  iapply (wp_store_slice 𝒱₀ (c : Thread nD τ) none Set.univ (m := oM) (r := halfRect c g) (fun _ => rfl)) $$ HO
  iintro HO
  rw [wp_ret]; imodintro
  isplitl [HR] <;> iassumption

theorem run_reduce (g : Fin 2) (own : FVec F S32x512 .f32) (s : Fin 7 → Vec F S1x1x32x512 .bf16) {h5 h9} :
    iprop(anyAt c (rHalf g) ∗ anyAt c (oHalf c g))
      ⊢ Run c (reduceStep (F := F) oM h5 rM h9 c g own s)
        (fun _ => iprop(owns (c : Thread nD τ) (rHalf g) fullShare (sumHalf own s) ∗ owns (c : Thread nD τ) (oHalf c g) fullShare (sumHalf own s))) :=
  run_reduce_at c g (off6_eq c g) (sumHalf own s)
end

/-! ## Families over the devices -/

section Families
variable {M : Type} [URA M]

theorem dev_fwd (Φ : Dev nD → sProp M) : bigSep Finset.univ Φ = iprop(Φ c ∗ bigSep Finset.univ fun r : Fin 7 => Φ (fwd c r)) := by
  rw [← Finset.insert_erase (Finset.mem_univ c), bigSep_insert (Finset.notMem_erase c _), fwd_others, bigSep_map]; rfl
theorem dev_bwd (Φ : Dev nD → sProp M) : bigSep Finset.univ Φ = iprop(Φ c ∗ bigSep Finset.univ fun r : Fin 7 => Φ (bwd c r)) := by
  rw [← Finset.insert_erase (Finset.mem_univ c), bigSep_insert (Finset.notMem_erase c _), bwd_others, bigSep_map]; rfl
theorem two (Φ : Fin 2 → sProp M) : bigSep Finset.univ Φ = iprop(Φ 0 ∗ Φ 1) :=
  bigSep_univ_eq_bigSepL [(0 : Fin 2), 1] (by decide) (by decide) Φ
theorem by_rev (Φ : Fin 7 → sProp M) : bigSep Finset.univ Φ = bigSep Finset.univ fun r => Φ (rev r) :=
  bigSep_univ_equiv (⟨rev, rev, rev_rev, rev_rev⟩ : Fin 7 ≃ Fin 7) Φ
theorem leafOf_inj : Function.Injective leafOf := by decide
theorem leaves_eq (Φ : Fin (2 ^ 3) → sProp M) : bigSep Finset.univ Φ = iprop((bigSep Finset.univ fun r : Fin 7 => Φ (leafOf r)) ∗ Φ 7) := by
  rw [show (Finset.univ : Finset (Fin (2 ^ 3))) = insert 7 (Finset.univ.map ⟨leafOf, leafOf_inj⟩) by decide, bigSep_insert (by decide), bigSep_map]
  exact BI.equiv_iff.mp ⟨BI.sep_comm, BI.sep_comm⟩
/-- A family over devices and halves. -/
theorem dev_halves_fwd (Φ : Dev nD → Fin 2 → sProp M) : (bigSep Finset.univ fun t : Dev nD × Fin 2 => Φ t.1 t.2)
    = iprop((Φ c 0 ∗ Φ c 1) ∗ bigSep Finset.univ fun r : Fin 7 => iprop(Φ (fwd c r) 0 ∗ Φ (fwd c r) 1)) := by
  rw [bigSep_univ_prod, show (fun d => bigSep Finset.univ fun g => Φ d g) = fun d => iprop(Φ d 0 ∗ Φ d 1) from funext fun d => two _, dev_fwd c]
theorem dev_halves_bwd (Φ : Dev nD → Fin 2 → sProp M) : (bigSep Finset.univ fun t : Dev nD × Fin 2 => Φ t.1 t.2)
    = iprop((Φ c 0 ∗ Φ c 1) ∗ bigSep Finset.univ fun r : Fin 7 => iprop(Φ (bwd c r) 0 ∗ Φ (bwd c r) 1)) := by
  rw [bigSep_univ_prod, show (fun d => bigSep Finset.univ fun g => Φ d g) = fun d => iprop(Φ d 0 ∗ Φ d 1) from funext fun d => two _, dev_bwd c]
end Families

/-! ## The buffers taken apart -/

theorem any_exists {s : Shape} (m : Memref sig .tc .vmem s .bf16) : (anyAt c m : sProp 𝕄) ⊢ ∃ X, owns (c : Thread nD τ) m fullShare X := .rfl

theorem slot_any (g : Fin 2) (r : Fin 7) : (anyAt c (sPlace g r) : sProp 𝕄) ⊢ anyAt c (sSlot g r) := by
  unfold anyAt
  iintro ⟨%X, H⟩
  iexists _
  iapply (owns_squeeze_in (nD := nD) (τ := τ) (Ix := Unit) (Name := ℕ) (U := UU) (Lvl := ℕ) (c : Thread nD τ) (sPlace g r) squeezes_S1x1x32x512_S32x512 fullShare X) $$ H

theorem slots_apart : (anyAt c sM : sProp 𝕄) ⊢ bigSep Finset.univ fun r : Fin 7 => iprop(anyAt c (sSlot 0 (rev r)) ∗ anyAt c (sSlot 1 (rev r))) := by
  refine (any_rects c sM (T := Fin 2 × Fin 7) (fun t => slotPlace t.1 t.2) (fun _ _ => rfl) slot_disj slot_cov).trans ?_
  rw [bigSep_univ_prod, two, bigSep_sep', ← by_rev (fun r => (anyAt c (sSlot 0 r) : sProp 𝕄)), ← by_rev (fun r => (anyAt c (sSlot 1 r) : sProp 𝕄))]
  have h (g : Fin 2) : (bigSep Finset.univ fun r : Fin 7 => (anyAt c (sPlace g r) : sProp 𝕄)) ⊢ bigSep Finset.univ fun r : Fin 7 => (anyAt c (sSlot g r) : sProp 𝕄) :=
    bigSep_mono fun r _ => slot_any c g r
  exact BI.sep_mono (h 0) (h 1)

theorem slots_join : iprop((bigSep Finset.univ fun r : Fin 7 => (anyAt c (sPlace 0 r) : sProp 𝕄)) ∗ bigSep Finset.univ fun r : Fin 7 => (anyAt c (sPlace 1 r) : sProp 𝕄))
    ⊢ anyAt c sM := by
  have h := any_of_rects c sM (T := Fin 2 × Fin 7) (F := F) (fun t => slotPlace t.1 t.2) (fun _ _ => rfl) slot_disj slot_cov
  rw [bigSep_univ_prod, two] at h
  exact h

theorem rows_apart : (anyAt c oM : sProp 𝕄) ⊢ iprop((anyAt c (oHalf c 0) ∗ anyAt c (oHalf c 1))
    ∗ bigSep Finset.univ fun r : Fin 7 => iprop(anyAt c (oHalf (fwd c r) 0) ∗ anyAt c (oHalf (fwd c r) 1))) := by
  have h := any_rects c oM (T := Dev nD × Fin 2) (F := F) (fun t => halfRect t.1 t.2) (fun _ _ => rfl) half_disj half_cov
  rw [dev_halves_fwd c (fun d g => (anyAt c (oHalf d g) : sProp 𝕄))] at h
  exact h

theorem rows_join : iprop((owns (c : Thread nD τ) (oHalf c 0) fullShare (redV J c 0) ∗ owns (c : Thread nD τ) (oHalf c 1) fullShare (redV J c 1))
      ∗ bigSep Finset.univ fun r : Fin 7 => iprop(owns (c : Thread nD τ) (oHalf (bwd c r) 0) fullShare (redV J (bwd c r) 0)
        ∗ owns (c : Thread nD τ) (oHalf (bwd c r) 1) fullShare (redV J (bwd c r) 1)))
    ⊢ (owns (c : Thread nD τ) oM fullShare (outV J) : sProp 𝕄) := by
  have h := owns_of_rects (nD := nD) (τ := τ) (Ix := Unit) (Name := ℕ) (U := UU) (Lvl := ℕ) (c : Thread nD τ) oM fullShare (T := Dev nD × Fin 2)
    (fun t => halfRect t.1 t.2) (fun _ _ => rfl) half_disj half_cov (outV J)
  rw [show (fun t : Dev nD × Fin 2 => (owns (c : Thread nD τ) (oM.slice (halfRect t.1 t.2) (fun _ => rfl)) fullShare (fun j => outV J ((halfRect t.1 t.2).emb j)) : sProp 𝕄))
      = fun t => owns (c : Thread nD τ) (oHalf t.1 t.2) fullShare (redV J t.1 t.2) from funext fun t => by rw [outV_half],
    dev_halves_bwd c (fun d g => (owns (c : Thread nD τ) (oHalf d g) fullShare (redV J d g) : sProp 𝕄))] at h
  exact h

theorem parts_apart : (anyAt c pM : sProp 𝕄) ⊢ iprop((anyAt c (pHalf c 0) ∗ anyAt c (pHalf c 1)) ∗ bigSep Finset.univ fun r : Fin 7 => (anyAt c (pChunk (fwd c r)) : sProp 𝕄)) := by
  refine (any_exists c pM).trans ?_
  iintro ⟨%X, H⟩
  have h := owns_rects (nD := nD) (τ := τ) (Ix := Unit) (Name := ℕ) (U := UU) (Lvl := ℕ) (c : Thread nD τ) pM fullShare (T := Dev nD)
    (fun t => chunkRect t) (fun _ _ => rfl) chunk_disj chunk_cov X
  rw [dev_fwd c (fun d => (owns (c : Thread nD τ) (pM.slice (chunkRect d) (fun _ => rfl)) fullShare (fun j => X ((chunkRect d).emb j)) : sProp 𝕄))] at h
  ihave ⟨HO, HR⟩ := h $$ H
  isplitl [HO]
  · ihave ⟨H0, H1⟩ := (chunk_split c c X) $$ HO
    isplitl [H0]
    · iapply (any_intro c (pHalf c 0) _) $$ H0
    · iapply (any_intro c (pHalf c 1) _) $$ H1
  · have hm : (bigSep Finset.univ fun r : Fin 7 => (owns (c : Thread nD τ) (pM.slice (chunkRect (fwd c r)) (fun _ => rfl)) fullShare (fun j => X ((chunkRect (fwd c r)).emb j)) : sProp 𝕄))
        ⊢ bigSep Finset.univ fun r : Fin 7 => (anyAt c (pChunk (fwd c r)) : sProp 𝕄) := bigSep_mono fun r _ => any_intro c (pChunk (fwd c r)) _
    iapply hm $$ HR

theorem parts_join : iprop((anyAt c (pHalf c 0) ∗ anyAt c (pHalf c 1)) ∗ bigSep Finset.univ fun r : Fin 7 => iprop(kept J c 0 r ∗ kept J c 1 r)) ⊢ anyAt c pM := by
  have h := any_of_rects c pM (T := Dev nD × Fin 2) (F := F) (fun t => halfRect t.1 t.2) (fun _ _ => rfl) half_disj half_cov
  rw [dev_halves_fwd c (fun d g => (anyAt c (pHalf d g) : sProp 𝕄))] at h
  have hm : (bigSep Finset.univ fun r : Fin 7 => iprop(kept J c 0 r ∗ kept J c 1 r))
      ⊢ bigSep Finset.univ fun r : Fin 7 => iprop((anyAt c (pHalf (fwd c r) 0) : sProp 𝕄) ∗ anyAt c (pHalf (fwd c r) 1)) :=
    bigSep_mono fun r _ => BI.sep_mono (any_intro c (pHalf (fwd c r) 0) _) (any_intro c (pHalf (fwd c r) 1) _)
  exact (BI.sep_mono (BI.Entails.refl _) hm).trans h

theorem sums_apart : (anyAt c rM : sProp 𝕄) ⊢ iprop(anyAt c (rHalf 0) ∗ anyAt c (rHalf 1)) := by
  have h := any_rects c rM (T := Fin 2) (F := F) (fun t => redRect t) (fun _ _ => rfl) red_disj red_cov
  rw [two (fun g => (anyAt c (rHalf g) : sProp 𝕄))] at h
  exact h
theorem sums_join : iprop(anyAt c (rHalf 0) ∗ anyAt c (rHalf 1)) ⊢ (anyAt c rM : sProp 𝕄) := by
  have h := any_of_rects c rM (T := Fin 2) (F := F) (fun t => redRect t) (fun _ _ => rfl) red_disj red_cov
  rw [two (fun g => (anyAt c (rHalf g) : sProp 𝕄))] at h
  exact h

theorem leaves_apart (g : Fin 2) : (owns (c : Thread nD τ) (rHalf g) fullShare (redV J c g) : sProp 𝕄)
    ⊢ iprop((bigSep Finset.univ fun r : Fin 7 => (owns (c : Thread nD τ) (rHalf g) (shareOf r) (redV J c g) : sProp 𝕄))
      ∗ owns (c : Thread nD τ) (rHalf g) (ShareLeaves.leaf 3 fullShare 7) (redV J c g)) := by
  have h := owns_leaves (nD := nD) (τ := τ) (Ix := Unit) (Name := ℕ) (U := UU) (Lvl := ℕ) (c : Thread nD τ) (rHalf g) 3 fullShare (redV J c g)
  rw [leaves_eq] at h
  exact h
theorem leaves_join (g : Fin 2) : iprop((bigSep Finset.univ fun r : Fin 7 => (owns (c : Thread nD τ) (rHalf g) (shareOf r) (redV J c g) : sProp 𝕄))
      ∗ owns (c : Thread nD τ) (rHalf g) (ShareLeaves.leaf 3 fullShare 7) (redV J c g)) ⊢ anyAt c (rHalf g) := by
  have h := owns_of_leaves (nD := nD) (τ := τ) (Ix := Unit) (Name := ℕ) (U := UU) (Lvl := ℕ) (c : Thread nD τ) (rHalf g) 3 fullShare (redV J c g)
  rw [leaves_eq] at h
  exact h.trans (any_intro c (rHalf g) _)

theorem heads_eq {M : Type} [URA M] (Φ : Fin 2 → Fin 4 → sProp M) : (bigSep Finset.univ fun t : Fin 2 × Fin 4 => Φ t.1 t.2)
    = iprop(Φ 0 0 ∗ Φ 0 1 ∗ Φ 0 2 ∗ Φ 0 3 ∗ Φ 1 0 ∗ Φ 1 1 ∗ Φ 1 2 ∗ Φ 1 3) :=
  bigSep_univ_eq_bigSepL [((0 : Fin 2), (0 : Fin 4)), (0, 1), (0, 2), (0, 3), (1, 0), (1, 1), (1, 2), (1, 3)] (by decide) (by decide) _

theorem heads_apart : (anyAt c cM : sProp 𝕄) ⊢ iprop(anyAt c (cHead 0 0) ∗ anyAt c (cHead 0 1) ∗ anyAt c (cHead 0 2) ∗ anyAt c (cHead 0 3)
    ∗ anyAt c (cHead 1 0) ∗ anyAt c (cHead 1 1) ∗ anyAt c (cHead 1 2) ∗ anyAt c (cHead 1 3)) := by
  have h := any_rects c cM (T := Fin 2 × Fin 4) (F := F) (fun t => headRect t.1 t.2) (fun _ _ => rfl) head_disj head_cov
  rw [heads_eq (fun b h => (anyAt c (cHead b h) : sProp 𝕄))] at h
  exact h
theorem heads_join (I : Ins F) : iprop(owns (c : Thread nD τ) (cHead 0 0) fullShare (headV I 0 0) ∗ owns (c : Thread nD τ) (cHead 0 1) fullShare (headV I 0 1)
      ∗ owns (c : Thread nD τ) (cHead 0 2) fullShare (headV I 0 2) ∗ owns (c : Thread nD τ) (cHead 0 3) fullShare (headV I 0 3)
      ∗ owns (c : Thread nD τ) (cHead 1 0) fullShare (headV I 1 0) ∗ owns (c : Thread nD τ) (cHead 1 1) fullShare (headV I 1 1)
      ∗ owns (c : Thread nD τ) (cHead 1 2) fullShare (headV I 1 2) ∗ owns (c : Thread nD τ) (cHead 1 3) fullShare (headV I 1 3))
    ⊢ (owns (c : Thread nD τ) cM fullShare (ctxV I) : sProp 𝕄) := by
  have h := owns_of_rects (nD := nD) (τ := τ) (Ix := Unit) (Name := ℕ) (U := UU) (Lvl := ℕ) (c : Thread nD τ) cM fullShare (T := Fin 2 × Fin 4)
    (fun t => headRect t.1 t.2) (fun _ _ => rfl) head_disj head_cov (ctxV I)
  rw [show (fun t : Fin 2 × Fin 4 => (owns (c : Thread nD τ) (cM.slice (headRect t.1 t.2) (fun _ => rfl)) fullShare (fun j => ctxV I ((headRect t.1 t.2).emb j)) : sProp 𝕄))
      = fun t => owns (c : Thread nD τ) (cHead t.1 t.2) fullShare (headV I t.1 t.2) from funext fun t => by rw [ctxV_head],
    heads_eq (fun b h => (owns (c : Thread nD τ) (cHead b h) fullShare (headV I b h) : sProp 𝕄))] at h
  exact h

end Cert.KernelIdeal.Exchange
-- ==== Proof.Body.lean ====
module

public import proofs.«01_k».proof.Proof.Local

/-! The whole body of one device, from its inputs and its part of the counters to the finished result. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (J : Dev nD → Ins F) (K : GSem nD τ sig → ℕ) (c : Dev nD)

/-! ## Phases -/

omit J K c in
theorem both (Φ Ψ : Fin 7 → sProp 𝕄) : (bigSep Finset.univ fun r => iprop(Φ r ∗ Ψ r)) = iprop(bigSep Finset.univ Φ ∗ bigSep Finset.univ Ψ) := bigSep_sep' _ _ _
omit J K c in
theorem three (Φ Ψ Θ : Fin 7 → sProp 𝕄) : (bigSep Finset.univ fun r => iprop(Φ r ∗ Ψ r ∗ Θ r))
    = iprop(bigSep Finset.univ Φ ∗ bigSep Finset.univ Ψ ∗ bigSep Finset.univ Θ) := by rw [both, both]

abbrev eachP (a : Fin 4) (g : Fin 2) : sProp 𝕄 := bigSep Finset.univ fun r : Fin 7 => pos c a g r
abbrev eachC (a : Fin 4) (g : Fin 2) : sProp 𝕄 := bigSep Finset.univ fun r : Fin 7 => cr c a g r
abbrev eachF (a : Fin 4) (g : Fin 2) : sProp 𝕄 := bigSep Finset.univ fun r : Fin 7 => fin c a g r
abbrev eachT (a b : Fin 4) (g : Fin 2) : sProp 𝕄 := bigSep Finset.univ fun r : Fin 7 => tok c a b g r
abbrev eachB : sProp 𝕄 := bigSep Finset.univ fun r : Fin 7 => dutyTok ER (barCell (fwd c r)) 0 (rev r)

theorem phase_sig : iprop(ctx J K c ∗ (bigSep Finset.univ fun r : Fin 7 => sigRes c r) ∗ ow c 0)
    ⊢ Run c (each7 fun r => sigStep (F := F) c r) (fun _ => iprop((bigSep Finset.univ fun _ : Fin 7 => (iprop(emp) : sProp 𝕄)) ∗ ow c 7)) :=
  run_family J K c (fun r => sigRes c r) (fun _ => iprop(emp)) (fun n => ow c n) _ (run_sig J K c)

theorem phase_first {h7 h8} : iprop(ctx J K c ∗ (bigSep Finset.univ fun r : Fin 7 => iprop(tok c 0 1 0 r ∗ slotFree c 0 r ∗ anyAt c (pChunk (fwd c r))))
      ∗ (owns (c : Thread nD τ) cM fullShare (ctxV (J c)) ∗ owns (c : Thread nD τ) wM fullShare (J c).wo) ∗ ow c 7)
    ⊢ Run c (each7 fun r => do
        chunkStep (F := F) wM cM pM h7 c r
        sendStep pM h7 sM h8 cc0_scratch4 cc0_scratch5 c 0 r)
      (fun _ => iprop((bigSep Finset.univ fun r : Fin 7 => iprop(cr c 0 0 r ∗ kept J c 1 r))
        ∗ (owns (c : Thread nD τ) cM fullShare (ctxV (J c)) ∗ owns (c : Thread nD τ) wM fullShare (J c).wo) ∗ ow c 14)) := by
  refine run_family J K c (fun r => iprop(tok c 0 1 0 r ∗ slotFree c 0 r ∗ anyAt c (pChunk (fwd c r)))) (fun r => iprop(cr c 0 0 r ∗ kept J c 1 r))
    (fun n => iprop((owns (c : Thread nD τ) cM fullShare (ctxV (J c)) ∗ owns (c : Thread nD τ) wM fullShare (J c).wo) ∗ ow c (7 + n))) _ fun r => ?_
  have hs : iprop(ctx J K c ∗ (tok c 0 1 0 r ∗ slotFree c 0 r ∗ kept J c 0 r) ∗ ow c (7 + r.val)) ⊢ _ := run_send J K c 0 r (h7 := h7) (h8 := h8)
  iintro ⟨#HC, ⟨HT, HF, HP⟩, HW, HO⟩
  iapply (run_seq (run_chunk c (J c) r (h7 := h7))) $$ [HW HP]
  · isplitl [HW] <;> iassumption
  iintro %_ ⟨HW, H0, H1⟩
  have hk := run_seq (Q := fun _ => iprop((cr c 0 0 r ∗ kept J c 1 r) ∗ (owns (c : Thread nD τ) cM fullShare (ctxV (J c)) ∗ owns (c : Thread nD τ) wM fullShare (J c).wo) ∗ ow c (7 + (r.val + 1))))
    (k := fun _ : PUnit => (.ret ⟨⟩ : Code F PUnit)) hs
  rw [show (sendStep (F := F) pM h7 sM h8 cc0_scratch4 cc0_scratch5 c 0 r >>= fun _ => (.ret ⟨⟩ : Code F PUnit)) = sendStep pM h7 sM h8 cc0_scratch4 cc0_scratch5 c 0 r from Prog.bind_pure _] at hk
  iapply hk $$ [HT HF H0 HO]
  · isplitr; · iexact HC
    isplitl [HT HF H0]
    · isplitl [HT]; · iexact HT
      isplitl [HF]; · iexact HF
      iexact H0
    iexact HO
  iintro %_ ⟨HR, HO⟩
  iapply (run_done (c := c) (Q := fun _ => iprop((cr c 0 0 r ∗ kept J c 1 r) ∗ (owns (c : Thread nD τ) cM fullShare (ctxV (J c)) ∗ owns (c : Thread nD τ) wM fullShare (J c).wo) ∗ ow c (7 + (r.val + 1)))) PUnit.unit)
  isplitl [HR H1]
  · isplitl [HR]; · iexact HR
    iexact H1
  isplitl [HW]; · iexact HW
  iexact HO

theorem phase_second {h7 h8} : iprop(ctx J K c ∗ (bigSep Finset.univ fun r : Fin 7 => iprop(tok c 0 1 1 r ∗ slotFree c 1 r ∗ kept J c 1 r)) ∗ ow c 14)
    ⊢ Run c (each7 fun r => sendStep (F := F) pM h7 sM h8 cc0_scratch4 cc0_scratch5 c 1 r) (fun _ => iprop(eachC c 0 1 ∗ ow c 21)) :=
  run_family J K c (fun r => iprop(tok c 0 1 1 r ∗ slotFree c 1 r ∗ kept J c 1 r)) (fun r => cr c 0 1 r) (fun n => ow c (14 + n)) _
    fun r => run_send J K c 1 r (h7 := h7) (h8 := h8)

theorem phase_recv (g : Fin 2) (n : ℕ) (hn : 21 ≤ n) {h7 h8} : iprop(ctx J K c ∗ (bigSep Finset.univ fun r : Fin 7 => iprop(pos c 1 g r ∗ cr c 1 g r)) ∗ ow c n)
    ⊢ Run c (keep7 fun r => recvStep (F := F) pM h7 sM h8 cc0_scratch5 c g r)
      (fun s => iprop(⌜s = fun r => slotV (halfV (J (bwd c r)) c g)⌝ ∗ (bigSep Finset.univ fun r : Fin 7 => iprop(fin c 1 g r ∗ anyAt c (sPlace g r))) ∗ ow c n)) :=
  run_family_keep J K c (fun r => iprop(pos c 1 g r ∗ cr c 1 g r)) (fun r => iprop(fin c 1 g r ∗ anyAt c (sPlace g r))) (fun _ => ow c n) _ _
    fun r => run_recv J K c g r n hn (h7 := h7) (h8 := h8)

theorem phase_share (g : Fin 2) {h5 h9} : iprop(ctx J K c ∗ (bigSep Finset.univ fun r : Fin 7 => iprop(tok c 2 3 g r ∗ rowsFree c g r ∗ owns (c : Thread nD τ) (rHalf g) (shareOf r) (redV J c g)))
      ∗ ow c (21 + 7 * g.val))
    ⊢ Run c (each7 fun r => shareStep (F := F) oM h5 rM h9 cc0_scratch6 cc0_scratch7 c g r) (fun _ => iprop(eachC c 2 g ∗ ow c (21 + 7 * g.val + 7))) :=
  run_family J K c (fun r => iprop(tok c 2 3 g r ∗ rowsFree c g r ∗ owns (c : Thread nD τ) (rHalf g) (shareOf r) (redV J c g))) (fun r => cr c 2 g r)
    (fun n => ow c (21 + 7 * g.val + n)) _ fun r => run_share J K c g r (h5 := h5) (h9 := h9)

theorem phase_sent (g : Fin 2) {h7 h8} : iprop(ctx J K c ∗ (bigSep Finset.univ fun r : Fin 7 => iprop(pos c 0 g r ∗ cr c 0 g r)) ∗ ow c 35)
    ⊢ Run c (each7 fun r => sentStep (F := F) pM h7 sM h8 cc0_scratch4 c g r) (fun _ => iprop((bigSep Finset.univ fun r : Fin 7 => iprop(fin c 0 g r ∗ kept J c g r)) ∗ ow c 35)) :=
  run_family J K c (fun r => iprop(pos c 0 g r ∗ cr c 0 g r)) (fun r => iprop(fin c 0 g r ∗ kept J c g r)) (fun _ => ow c 35) _ fun r => run_sent J K c g r (h7 := h7) (h8 := h8)

abbrev filled (g : Fin 2) (r : Fin 7) : sProp 𝕄 := owns (c : Thread nD τ) (oHalf (bwd c r) g) fullShare (redV J (bwd c r) g)
abbrev lent (g : Fin 2) (r : Fin 7) : sProp 𝕄 := owns (c : Thread nD τ) (rHalf g) (shareOf r) (redV J c g)

theorem phase_got (g : Fin 2) {h5 h9} : iprop(ctx J K c ∗ (bigSep Finset.univ fun r : Fin 7 => iprop(pos c 3 g r ∗ cr c 3 g r)) ∗ ow c 35)
    ⊢ Run c (each7 fun r => gotStep (F := F) oM h5 rM h9 cc0_scratch7 c g r) (fun _ => iprop((bigSep Finset.univ fun r : Fin 7 => iprop(fin c 3 g r ∗ filled J c g r)) ∗ ow c 35)) :=
  run_family J K c (fun r => iprop(pos c 3 g r ∗ cr c 3 g r)) (fun r => iprop(fin c 3 g r ∗ filled J c g r)) (fun _ => ow c 35) _ fun r => run_got J K c g r (h5 := h5) (h9 := h9)

theorem phase_shared (g : Fin 2) {h5 h9} : iprop(ctx J K c ∗ (bigSep Finset.univ fun r : Fin 7 => iprop(pos c 2 g r ∗ cr c 2 g r)) ∗ ow c 35)
    ⊢ Run c (each7 fun r => sharedStep (F := F) oM h5 rM h9 cc0_scratch6 c g r) (fun _ => iprop((bigSep Finset.univ fun r : Fin 7 => iprop(fin c 2 g r ∗ lent J c g r)) ∗ ow c 35)) :=
  run_family J K c (fun r => iprop(pos c 2 g r ∗ cr c 2 g r)) (fun r => iprop(fin c 2 g r ∗ lent J c g r)) (fun _ => ow c 35) _ fun r => run_shared J K c g r (h5 := h5) (h9 := h9)

/-! ## Loads -/

theorem run_load {s : Shape} (m : Memref sig .tc .vmem s .bf16) (r : Rect s) (X : s.Idx → Elt F .bf16) {l} :
    (owns (c : Thread nD τ) m fullShare X : sProp 𝕄) ⊢ Run c (Prog.lift (.load m r.toLoadRect l) : Code F (r.toLoadRect.shape.Idx → Elt F .bf16))
      (fun a => iprop(⌜a = fun j => X (r.emb j)⌝ ∗ owns (c : Thread nD τ) m fullShare X)) := by
  unfold Run Prog.lift
  iintro H
  iapply (wp_load_part 𝒱₀ (c : Thread nD τ) none Set.univ (m := m) (r := r)) $$ H
  iintro H
  rw [wp_ret]; imodintro
  isplitr; · ipureintro; rfl
  iexact H

theorem run_load_all {n0 n1 : ℕ} (m : Memref sig .tc .vmem ⟨2, ![n0, n1]⟩ .bf16) (X : Shape.Idx ⟨2, ![n0, n1]⟩ → Elt F .bf16) {h l} :
    (owns (c : Thread nD τ) m fullShare X : sProp 𝕄)
      ⊢ Run c (Prog.lift (.load m (Rect.unit (s := ⟨2, ![n0, n1]⟩) ![0, 0] ![n0, n1] h).toLoadRect l) : Code F (Shape.Idx ⟨2, ![n0, n1]⟩ → Elt F .bf16))
      (fun a => iprop(⌜a = X⌝ ∗ owns (c : Thread nD τ) m fullShare X)) := by
  have hl := run_load c m (Rect.unit (s := ⟨2, ![n0, n1]⟩) ![0, 0] ![n0, n1] h) X (l := l)
  rw [all_emb X h] at hl
  exact hl

theorem run_rows (I : Ins F) {o : Fin 2 → ℕ} (e : o = ![64 * c.val, 0]) {i l} :
    (owns (c : Thread nD τ) cM fullShare (ctxV I) : sProp 𝕄)
      ⊢ Run c (Prog.lift (.load cM (Rect.unit (s := S512x256) o S64x256.size i).toLoadRect l) : Code F (S64x256.Idx → Elt F .bf16))
      (fun a => iprop(⌜a = rowsV I c⌝ ∗ owns (c : Thread nD τ) cM fullShare (ctxV I))) := by
  subst e
  exact run_load c cM (rowsRect c) (ctxV I)

theorem run_device {A : Type} {P : sProp 𝕄} (k : Dev nD → Code F A) (Q : A → sProp 𝕄) (h : P ⊢ Run c (k c) Q) :
    P ⊢ Run c (Prog.lift (.deviceId : TpuEff nD τ sig (Elt F) Λ₀ .tc (Dev nD)) >>= k) Q := by
  unfold Run at h ⊢
  simp only [Prog.lift, Prog.bind_op, Prog.bind_ret, wp_deviceId]
  exact h

theorem run_reduced (g : Fin 2) {h5 h9} : iprop(anyAt c (rHalf g) ∗ anyAt c (oHalf c g))
    ⊢ Run c (reduceStep (F := F) oM h5 rM h9 c g (ownHalf (rowsV (J c) c) (J c).wo g) (fun r => slotV (halfV (J (bwd c r)) c g)))
      (fun _ => iprop(owns (c : Thread nD τ) (rHalf g) fullShare (redV J c g) ∗ owns (c : Thread nD τ) (oHalf c g) fullShare (redV J c g))) :=
  run_reduce c g _ _

/-! ## The body -/

/-- A device's inputs in its staging buffers. -/
def insAt (I : Ins F) : sProp 𝕄 :=
  iprop(owns (c : Thread nD τ) xM fullShare I.x ∗ owns (c : Thread nD τ) qM fullShare I.wq ∗ owns (c : Thread nD τ) kM fullShare I.k
    ∗ owns (c : Thread nD τ) vM fullShare I.v ∗ owns (c : Thread nD τ) wM fullShare I.wo)
/-- A device's scratch buffers. -/
def scratch : sProp 𝕄 := iprop(anyAt c cM ∗ anyAt c pM ∗ anyAt c sM ∗ anyAt c rM)
/-- A device's part of the counters before the body: its duties, its counters' positions, and the credits of what it awaits; -/
def before : sProp 𝕄 :=
  iprop(eachB c ∗ (eachT c 0 1 0 ∗ eachT c 0 1 1 ∗ eachT c 2 3 0 ∗ eachT c 2 3 1)
    ∗ (eachP c 0 0 ∗ eachP c 0 1 ∗ eachP c 1 0 ∗ eachP c 1 1 ∗ eachP c 2 0 ∗ eachP c 2 1 ∗ eachP c 3 0 ∗ eachP c 3 1)
    ∗ (eachC c 1 0 ∗ eachC c 1 1 ∗ eachC c 3 0 ∗ eachC c 3 1)
    ∗ (atPos ER (barCell c) 0 ∅ 0 ∗ cred (tallyAt (barCell c) () 7)))
/-- and after it. -/
def afterwards : sProp 𝕄 :=
  iprop((eachF c 0 0 ∗ eachF c 0 1 ∗ eachF c 1 0 ∗ eachF c 1 1 ∗ eachF c 2 0 ∗ eachF c 2 1 ∗ eachF c 3 0 ∗ eachF c 3 1)
    ∗ atPos ER (barCell c) (0 + 1) ∅ 0)

theorem run_loop {h5 h6 h7 h8 h9} :
    iprop(ctx J K c ∗ insAt c (J c) ∗ anyAt c oM ∗ scratch c ∗ before c ∗ ow c 0)
      ⊢ Run c (loopBody (F := F) xM qM kM vM wM oM h5 cM h6 pM h7 sM h8 rM h9 cc0_scratch4 cc0_scratch5 cc0_scratch6 cc0_scratch7)
        (fun _ => iprop(insAt c (J c) ∗ owns (c : Thread nD τ) oM fullShare (outV J) ∗ scratch c ∗ afterwards c ∗ ow c 35)) := by
  unfold loopBody
  refine run_device c _ _ ?_
  unfold insAt scratch before afterwards
  iintro ⟨#HC, ⟨Hx, Hq, Hk, Hv, Hw⟩, Ho, ⟨Hcm, Hpm, Hsm, Hrm⟩, ⟨HB, ⟨HT0, HT1, HT2, HT3⟩, ⟨P00, P01, P10, P11, P20, P21, P30, P31⟩, ⟨C10, C11, C30, C31⟩, Hbar⟩, HO⟩
  iapply (run_seq (run_load_all c xM (J c).x)) $$ Hx
  iintro %x ⟨%ex, Hx⟩
  iapply (run_seq (run_load_all c qM (J c).wq)) $$ Hq
  iintro %wq ⟨%eq, Hq⟩
  subst ex eq
  ihave ⟨A0, A1, A2, A3, A4, A5, A6, A7⟩ := (heads_apart c) $$ Hcm
  iapply (run_seq (run_head c (J c) 0 0 (h6 := h6))) $$ [Hk Hv A0]
  · isplitl [Hk Hv]
    · isplitl [Hk] <;> iassumption
    iexact A0
  iintro %_ ⟨⟨Hk, Hv⟩, A0⟩
  iapply (run_seq (run_head c (J c) 0 1 (h6 := h6))) $$ [Hk Hv A1]
  · isplitl [Hk Hv]
    · isplitl [Hk] <;> iassumption
    iexact A1
  iintro %_ ⟨⟨Hk, Hv⟩, A1⟩
  iapply (run_seq (run_head c (J c) 0 2 (h6 := h6))) $$ [Hk Hv A2]
  · isplitl [Hk Hv]
    · isplitl [Hk] <;> iassumption
    iexact A2
  iintro %_ ⟨⟨Hk, Hv⟩, A2⟩
  iapply (run_seq (run_head c (J c) 0 3 (h6 := h6))) $$ [Hk Hv A3]
  · isplitl [Hk Hv]
    · isplitl [Hk] <;> iassumption
    iexact A3
  iintro %_ ⟨⟨Hk, Hv⟩, A3⟩
  iapply (run_seq (run_head c (J c) 1 0 (h6 := h6))) $$ [Hk Hv A4]
  · isplitl [Hk Hv]
    · isplitl [Hk] <;> iassumption
    iexact A4
  iintro %_ ⟨⟨Hk, Hv⟩, A4⟩
  iapply (run_seq (run_head c (J c) 1 1 (h6 := h6))) $$ [Hk Hv A5]
  · isplitl [Hk Hv]
    · isplitl [Hk] <;> iassumption
    iexact A5
  iintro %_ ⟨⟨Hk, Hv⟩, A5⟩
  iapply (run_seq (run_head c (J c) 1 2 (h6 := h6))) $$ [Hk Hv A6]
  · isplitl [Hk Hv]
    · isplitl [Hk] <;> iassumption
    iexact A6
  iintro %_ ⟨⟨Hk, Hv⟩, A6⟩
  iapply (run_seq (run_head c (J c) 1 3 (h6 := h6))) $$ [Hk Hv A7]
  · isplitl [Hk Hv]
    · isplitl [Hk] <;> iassumption
    iexact A7
  iintro %_ ⟨⟨Hk, Hv⟩, A7⟩
  ihave Hcm := (heads_join c (J c)) $$ [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  -- the barrier: every buffer that a peer writes is handed to it
  ihave Hsm := (slots_apart c) $$ Hsm
  ihave ⟨⟨Ho0, Ho1⟩, Hor⟩ := (rows_apart c) $$ Ho
  iapply (run_seq (phase_sig J K c)) $$ [HB Hsm Hor HO]
  · isplitr; · iexact HC
    isplitl [HB Hsm Hor]
    · have e := three (fun r => (dutyTok ER (barCell (fwd c r)) 0 (rev r) : sProp 𝕄)) (fun r => iprop(anyAt c (sSlot 0 (rev r)) ∗ anyAt c (sSlot 1 (rev r))))
        (fun r => iprop(anyAt c (oHalf (fwd c r) 0) ∗ anyAt c (oHalf (fwd c r) 1)))
      unfold sigRes
      rw [e]
      isplitl [HB]; · iexact HB
      isplitl [Hsm] <;> iassumption
    iexact HO
  iintro %_ ⟨-, HO⟩
  iapply (run_seq (run_barrier J K c)) $$ [Hbar HO]
  · isplitr; · iexact HC
    isplitl [Hbar] <;> iassumption
  iintro %_ ⟨Hbar, Hpay, HO⟩
  have hpay : (bigSep Finset.univ fun k => (barPay c k : sProp 𝕄)) ⊢ iprop(((bigSep Finset.univ fun k => (slotFree c 0 k : sProp 𝕄)) ∗ bigSep Finset.univ fun k => (slotFree c 1 k : sProp 𝕄))
      ∗ (bigSep Finset.univ fun k => (rowsFree c 0 k : sProp 𝕄)) ∗ bigSep Finset.univ fun k => (rowsFree c 1 k : sProp 𝕄)) := by
    unfold barPay; rw [both, both, both]
  ihave ⟨⟨S0, S1⟩, R0, R1⟩ := hpay $$ Hpay
  -- the first phase: partial products computed and sent
  ihave ⟨⟨Hp0, Hp1⟩, Hpr⟩ := (parts_apart c) $$ Hpm
  iapply (run_seq (phase_first J K c (h7 := h7) (h8 := h8))) $$ [HT0 S0 Hpr Hcm Hw HO]
  · isplitr; · iexact HC
    isplitl [HT0 S0 Hpr]
    · rw [three]
      isplitl [HT0]; · iexact HT0
      isplitl [S0] <;> iassumption
    isplitl [Hcm Hw]
    · isplitl [Hcm] <;> iassumption
    iexact HO
  iintro %_ ⟨Hf, ⟨Hcm, Hw⟩, HO⟩
  ihave ⟨C00, K1⟩ := (Entails.of_eq (both (fun r => cr c 0 0 r) (fun r => kept J c 1 r))) $$ Hf
  iapply (run_seq (phase_second J K c (h7 := h7) (h8 := h8))) $$ [HT1 S1 K1 HO]
  · isplitr; · iexact HC
    isplitl [HT1 S1 K1]
    · rw [three]
      isplitl [HT1]; · iexact HT1
      isplitl [S1] <;> iassumption
    iexact HO
  iintro %_ ⟨C01, HO⟩
  iapply (run_seq (run_rows c (J c) (off5_eq c))) $$ Hcm
  iintro %rows ⟨%erows, Hcm⟩
  iapply (run_seq (run_load_all c wM (J c).wo)) $$ Hw
  iintro %wo ⟨%ewo, Hw⟩
  subst erows ewo
  ihave ⟨Hr0, Hr1⟩ := (sums_apart c) $$ Hrm
  iapply (run_seq (phase_recv J K c 0 21 (by decide) (h7 := h7) (h8 := h8))) $$ [P10 C10 HO]
  · isplitr; · iexact HC
    isplitl [P10 C10]
    · rw [both]
      isplitl [P10] <;> iassumption
    iexact HO
  iintro %s0 ⟨%es0, Hz, HO⟩
  subst es0
  ihave ⟨F10, Z0⟩ := (Entails.of_eq (both (fun r => fin c 1 0 r) (fun r => anyAt c (sPlace 0 r)))) $$ Hz
  iapply (run_seq (run_reduced J c 0 (h5 := h5) (h9 := h9))) $$ [Hr0 Ho0]
  · isplitl [Hr0] <;> iassumption
  iintro %_ ⟨Hr0, Ho0⟩
  ihave ⟨L0, M0⟩ := (leaves_apart J c 0) $$ Hr0
  iapply (run_seq (phase_share J K c 0 (h5 := h5) (h9 := h9))) $$ [HT2 R0 L0 HO]
  · isplitr; · iexact HC
    isplitl [HT2 R0 L0]
    · rw [three]
      isplitl [HT2]; · iexact HT2
      isplitl [R0] <;> iassumption
    iexact HO
  iintro %_ ⟨C20, HO⟩
  iapply (run_seq (phase_recv J K c 1 28 (by decide) (h7 := h7) (h8 := h8))) $$ [P11 C11 HO]
  · isplitr; · iexact HC
    isplitl [P11 C11]
    · rw [both]
      isplitl [P11] <;> iassumption
    iexact HO
  iintro %s1 ⟨%es1, Hz, HO⟩
  subst es1
  ihave ⟨F11, Z1⟩ := (Entails.of_eq (both (fun r => fin c 1 1 r) (fun r => anyAt c (sPlace 1 r)))) $$ Hz
  iapply (run_seq (run_reduced J c 1 (h5 := h5) (h9 := h9))) $$ [Hr1 Ho1]
  · isplitl [Hr1] <;> iassumption
  iintro %_ ⟨Hr1, Ho1⟩
  ihave ⟨L1, M1⟩ := (leaves_apart J c 1) $$ Hr1
  iapply (run_seq (phase_share J K c 1 (h5 := h5) (h9 := h9))) $$ [HT3 R1 L1 HO]
  · isplitr; · iexact HC
    isplitl [HT3 R1 L1]
    · rw [three]
      isplitl [HT3]; · iexact HT3
      isplitl [R1] <;> iassumption
    iexact HO
  iintro %_ ⟨C21, HO⟩
  -- everything sent has left, everything awaited has arrived
  iapply (run_seq (phase_sent J K c 0 (h7 := h7) (h8 := h8))) $$ [P00 C00 HO]
  · isplitr; · iexact HC
    isplitl [P00 C00]
    · rw [both]
      isplitl [P00] <;> iassumption
    iexact HO
  iintro %_ ⟨W00, HO⟩
  iapply (run_seq (phase_sent J K c 1 (h7 := h7) (h8 := h8))) $$ [P01 C01 HO]
  · isplitr; · iexact HC
    isplitl [P01 C01]
    · rw [both]
      isplitl [P01] <;> iassumption
    iexact HO
  iintro %_ ⟨W01, HO⟩
  iapply (run_seq (phase_got J K c 0 (h5 := h5) (h9 := h9))) $$ [P30 C30 HO]
  · isplitr; · iexact HC
    isplitl [P30 C30]
    · rw [both]
      isplitl [P30] <;> iassumption
    iexact HO
  iintro %_ ⟨W30, HO⟩
  iapply (run_seq (phase_got J K c 1 (h5 := h5) (h9 := h9))) $$ [P31 C31 HO]
  · isplitr; · iexact HC
    isplitl [P31 C31]
    · rw [both]
      isplitl [P31] <;> iassumption
    iexact HO
  iintro %_ ⟨W31, HO⟩
  iapply (run_seq (phase_shared J K c 0 (h5 := h5) (h9 := h9))) $$ [P20 C20 HO]
  · isplitr; · iexact HC
    isplitl [P20 C20]
    · rw [both]
      isplitl [P20] <;> iassumption
    iexact HO
  iintro %_ ⟨W20, HO⟩
  have hlast := run_seq (Q := fun _ => iprop((owns (c : Thread nD τ) xM fullShare (J c).x ∗ owns (c : Thread nD τ) qM fullShare (J c).wq ∗ owns (c : Thread nD τ) kM fullShare (J c).k
    ∗ owns (c : Thread nD τ) vM fullShare (J c).v ∗ owns (c : Thread nD τ) wM fullShare (J c).wo) ∗ owns (c : Thread nD τ) oM fullShare (outV J)
    ∗ (anyAt c cM ∗ anyAt c pM ∗ anyAt c sM ∗ anyAt c rM)
    ∗ ((eachF c 0 0 ∗ eachF c 0 1 ∗ eachF c 1 0 ∗ eachF c 1 1 ∗ eachF c 2 0 ∗ eachF c 2 1 ∗ eachF c 3 0 ∗ eachF c 3 1)
    ∗ atPos ER (barCell c) (0 + 1) ∅ 0) ∗ ow c 35)) (k := fun _ : PUnit => (.ret ⟨⟩ : Code F PUnit)) (phase_shared J K c 1 (h5 := h5) (h9 := h9))
  rw [show ((each7 fun r => sharedStep (F := F) oM h5 rM h9 cc0_scratch6 c 1 r) >>= fun _ => (.ret ⟨⟩ : Code F PUnit)) = each7 fun r => sharedStep oM h5 rM h9 cc0_scratch6 c 1 r from Prog.bind_pure _] at hlast
  iapply hlast $$ [P21 C21 HO]
  · isplitr; · iexact HC
    isplitl [P21 C21]
    · rw [both]
      isplitl [P21] <;> iassumption
    iexact HO
  iintro %_ ⟨W21, HO⟩
  iapply (run_done (c := c) (Q := fun _ => iprop((owns (c : Thread nD τ) xM fullShare (J c).x ∗ owns (c : Thread nD τ) qM fullShare (J c).wq ∗ owns (c : Thread nD τ) kM fullShare (J c).k
    ∗ owns (c : Thread nD τ) vM fullShare (J c).v ∗ owns (c : Thread nD τ) wM fullShare (J c).wo) ∗ owns (c : Thread nD τ) oM fullShare (outV J)
    ∗ (anyAt c cM ∗ anyAt c pM ∗ anyAt c sM ∗ anyAt c rM)
    ∗ ((eachF c 0 0 ∗ eachF c 0 1 ∗ eachF c 1 0 ∗ eachF c 1 1 ∗ eachF c 2 0 ∗ eachF c 2 1 ∗ eachF c 3 0 ∗ eachF c 3 1)
    ∗ atPos ER (barCell c) (0 + 1) ∅ 0) ∗ ow c 35)) PUnit.unit)
  ihave ⟨F00, Hk0⟩ := (Entails.of_eq (both (fun r => fin c 0 0 r) (fun r => kept J c 0 r))) $$ W00
  ihave ⟨F01, Hk1⟩ := (Entails.of_eq (both (fun r => fin c 0 1 r) (fun r => kept J c 1 r))) $$ W01
  ihave ⟨F30, G0⟩ := (Entails.of_eq (both (fun r => fin c 3 0 r) (fun r => filled J c 0 r))) $$ W30
  ihave ⟨F31, G1⟩ := (Entails.of_eq (both (fun r => fin c 3 1 r) (fun r => filled J c 1 r))) $$ W31
  ihave ⟨F20, L0⟩ := (Entails.of_eq (both (fun r => fin c 2 0 r) (fun r => lent J c 0 r))) $$ W20
  ihave ⟨F21, L1⟩ := (Entails.of_eq (both (fun r => fin c 2 1 r) (fun r => lent J c 1 r))) $$ W21
  isplitl [Hx Hq Hk Hv Hw]
  · isplitl [Hx]; · iexact Hx
    isplitl [Hq]; · iexact Hq
    isplitl [Hk]; · iexact Hk
    isplitl [Hv] <;> iassumption
  isplitl [Ho0 Ho1 G0 G1]
  · iapply (rows_join J c)
    isplitl [Ho0 Ho1]
    · isplitl [Ho0] <;> iassumption
    rw [both]
    isplitl [G0] <;> iassumption
  isplitl [Hcm Hp0 Hp1 Hk0 Hk1 Z0 Z1 L0 L1 M0 M1]
  · isplitl [Hcm]; · iapply (any_intro c cM _) $$ Hcm
    isplitl [Hp0 Hp1 Hk0 Hk1]
    · iapply (parts_join J c)
      isplitl [Hp0 Hp1]
      · isplitl [Hp0] <;> iassumption
      rw [both]
      isplitl [Hk0] <;> iassumption
    isplitl [Z0 Z1]
    · iapply (slots_join c)
      isplitl [Z0] <;> iassumption
    iapply (sums_join c)
    isplitl [L0 M0]
    · iapply (leaves_join J c 0)
      isplitl [L0] <;> iassumption
    · iapply (leaves_join J c 1)
      isplitl [L1] <;> iassumption
  isplitl [F00 F01 F10 F11 F20 F21 F30 F31 Hbar]
  · isplitl [F00 F01 F10 F11 F20 F21 F30 F31]
    · isplitl [F00]; · iexact F00
      isplitl [F01]; · iexact F01
      isplitl [F10]; · iexact F10
      isplitl [F11]; · iexact F11
      isplitl [F20]; · iexact F20
      isplitl [F21]; · iexact F21
      isplitl [F30]; · iexact F30
      iexact F31
    iexact Hbar
  iexact HO

end Cert.KernelIdeal.Exchange
-- ==== Proof.Region.lean ====
module

public import proofs.«01_k».proof.Proof.Body
public import proofs.«01_k».proof.Proof.Gen.KernelIdeal.Points
public import Idealize.ShloMosaic.Lib.Pipeline.ValueKit
public import Idealize.ShloMosaic.Lib.Rounds.Family

/-! The kernel call as one region of the program: what it is entered with, what it leaves, and every counter back at zero. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

open Idealize.ShloMosaic.Pipeline (Dat BodyObligation)

/-! ## The operands -/

variable (m : (ℓ : Loc nD τ sig) → Buf (Elt F) ℓ)

/-- What device `c`'s kernel call reads: its five operands as the operations before the call leave them. -/
def insOf (c : Dev nD) : Ins F :=
  { x := V1 m c main_v5, wq := V1 m c main_arg1, k := V1 m c main_v34, v := V1 m c main_v35, wo := V1 m c main_arg4 }

/-- What the call leaves in its result, on every device the same. -/
def outsOf : Outs (F := F) := fun _ r c => if h : r = main_v36 then h ▸ outV (insOf m) else V1 m c r
theorem outsOf_res (c : Dev nD) : outsOf m 2 main_v36 c = outV (insOf m) := dif_pos rfl

/-! ## The counters of one device, family by family -/

theorem keys {M : Type} [URA M] (Φ : Key → sProp M) : bigSep Finset.univ Φ
    = iprop((bigSep Finset.univ fun r : Fin 7 => Φ (0, 0, r)) ∗ (bigSep Finset.univ fun r : Fin 7 => Φ (0, 1, r))
      ∗ (bigSep Finset.univ fun r : Fin 7 => Φ (1, 0, r)) ∗ (bigSep Finset.univ fun r : Fin 7 => Φ (1, 1, r))
      ∗ (bigSep Finset.univ fun r : Fin 7 => Φ (2, 0, r)) ∗ (bigSep Finset.univ fun r : Fin 7 => Φ (2, 1, r))
      ∗ (bigSep Finset.univ fun r : Fin 7 => Φ (3, 0, r)) ∗ (bigSep Finset.univ fun r : Fin 7 => Φ (3, 1, r))) := by
  rw [bigSep_univ_prod]
  have h1 (Ψ : Fin 4 → sProp M) : bigSep Finset.univ Ψ = iprop(Ψ 0 ∗ Ψ 1 ∗ Ψ 2 ∗ Ψ 3) :=
    bigSep_univ_eq_bigSepL [(0 : Fin 4), 1, 2, 3] (by decide) (by decide) Ψ
  rw [h1]
  simp only [bigSep_univ_prod]
  have h2 (Ψ : Fin 2 → sProp M) : bigSep Finset.univ Ψ = iprop(Ψ 0 ∗ Ψ 1) := BI.bigSep_fin_two Ψ
  simp only [h2]
  have h4 (A B C D E G H I : sProp M) : iprop((A ∗ B) ∗ (C ∗ D) ∗ (E ∗ G) ∗ H ∗ I) = iprop(A ∗ B ∗ C ∗ D ∗ E ∗ G ∗ H ∗ I) := by
    have hassoc (X Y Z : sProp M) : iprop((X ∗ Y) ∗ Z) = iprop(X ∗ Y ∗ Z) :=
      BI.equiv_iff.mp ⟨BI.sep_assoc, BI.sep_assoc'⟩
    simp only [hassoc]
  exact h4 _ _ _ _ _ _ _ _

variable (J : Dev nD → Ins F) (K : GSem nD τ sig → ℕ) (c : Dev nD)

abbrev ownSem : Key → SemLoc sig := fun k => .dma (dsem k.1 k.2.1 k.2.2)
theorem ownSems : Pipeline.OwnSemFacts spec0 ownSem := by decide +kernel

/-- All of a device's counters, back at zero. -/
def zeros : sProp 𝕄 := iprop((bigSep Finset.univ fun k : Key => semVal (kcell k c) 0) ∗ semVal (barCell c) 0)

/-- A device's copy counters opened. -/
theorem keys_open : iprop(known J K ∗ (bigSep Finset.univ fun k : Key => openTok ER (kcell k c)) ∗ bigSep Finset.univ fun k : Key => semVal (kcell k c) 0)
    ⊢ (|={Set.univ}=> iprop((bigSep Finset.univ fun k : Key => atPos ER (kcell k c) 0 ∅ 0) ∗ openAt c) : sProp 𝕄) := by
  have h := Rounds.cells_open ER (Rd J) (Finset.univ : Finset Key) (fun k => kcell k c) (fun k => K (kcell k c)) (Es := Set.univ) (fun k _ => Set.mem_univ _)
  rw [bigSep_sep' _ _ _, bigSep_sep' _ _ _] at h
  unfold known openAt
  iintro ⟨⟨-, #Hk, -, -⟩, Ho, Hs⟩
  iapply h
  isplitl [Ho]
  · isplitr
    · iapply (bigSep_at (fun p : Dev nD => bigSep Finset.univ fun k : Key => cellInv ER (Rd J) (K (kcell k p)) (kcell k p)) c) $$ Hk
    iexact Ho
  iexact Hs

/-- After the body every counter is closed. -/
theorem keys_close : iprop(ctx J K c ∗ afterwards c) ⊢ (|={Set.univ}=> zeros c : sProp 𝕄) := by
  have h := Rounds.cells_close ER (Rd J) (Finset.univ : Finset Key) (fun k => kcell k c) (fun k => K (kcell k c)) (Es := Set.univ) (fun k _ => Set.mem_univ _)
    (fun k _ h => h) (fun _ => 0 + 1) (fun k _ => duties_later J _)
  rw [bigSep_sep' _ _ _, keys (fun k => (atPos ER (kcell k c) (0 + 1) ∅ 0 : sProp 𝕄))] at h
  unfold afterwards zeros ctx known
  iintro ⟨⟨⟨#Hb, #Hk, -, -⟩, -⟩, HF, Hat⟩
  imod h $$ [HF] with Hz
  · isplitr
    · iapply (bigSep_at (fun p : Dev nD => bigSep Finset.univ fun k : Key => cellInv ER (Rd J) (K (kcell k p)) (kcell k p)) c) $$ Hk
    iexact HF
  imod (Rounds.cell_close ER (Rd J) (Set.mem_univ (K (barCell c))) (fun h => h) (duties_later J (barCell c))) $$ [Hat] with Hv
  · isplitr
    · iapply (bigSep_at (fun p : Dev nD => cellInv ER (Rd J) (K (barCell p)) (barCell p)) c) $$ Hb
    iexact Hat
  imodintro
  isplitl [Hz] <;> iassumption

/-! ## The region's proof data -/

/-- A device's part before the body, -/
def entry : sProp 𝕄 := iprop((∃ K, ctx J K c ∗ before c) ∗ scratch c ∗ ∃ r, prngReg c r)
/-- and after it. -/
def exit : sProp 𝕄 := iprop(zeros c ∗ scratch c ∗ ∃ r, prngReg c r)

def dat (c : Dev nD) : Dat τ (Elt F) Unit ℕ UU ℕ cfg0 c where
  A w := V1 m c (Pipeline.arrRef spec0 w)
  after
    | ⟨0, _⟩ => fun _ => (insOf m c).x
    | ⟨1, _⟩ => fun _ => (insOf m c).wq
    | ⟨2, _⟩ => fun _ => (insOf m c).k
    | ⟨3, _⟩ => fun _ => (insOf m c).v
    | ⟨4, _⟩ => fun _ => (insOf m c).wo
    | ⟨5, _⟩ => fun _ => outV (insOf m)
    | ⟨_ + 6, h⟩ => absurd h (Nat.not_lt.2 (Nat.le_add_left _ _))
  Φ t := if t.val = 0 then entry (insOf m) c else exit c
  q _ := fullShare
  owed t := if t.val = 0 then rem c 0 else 0

def pdats : (p : Fin 1) → (c : Dev nD) → Dat τ (Elt F) Unit ℕ UU ℕ (cfgs p) c := fun
  | 0 => dat m
  | ⟨_ + 1, h⟩ => absurd h (Nat.not_lt.2 (Nat.le_add_left _ _))

theorem before_0 (d) : (dat m c).before 0 t0_0 d = (insOf m c).x := by
  unfold Dat.before; rw [if_pos (fetch0_0 _)]
  funext j
  show V1 m c main_v5 _ = V1 m c main_v5 _
  refine congrArg _ (funext fun a => Fin.ext ?_)
  blk_simp
  exact (congrArg (· + (j a).val) (Nat.zero_mul _)).trans (Nat.zero_add _)
theorem before_1 (d) : (dat m c).before 1 t0_0 d = (insOf m c).wq := by
  unfold Dat.before; rw [if_pos (fetch0_1 _)]
  funext j
  show V1 m c main_arg1 _ = V1 m c main_arg1 _
  refine congrArg _ (funext fun a => Fin.ext ?_)
  blk_simp
  exact (congrArg (· + (j a).val) (Nat.zero_mul _)).trans (Nat.zero_add _)
theorem before_2 (d) : (dat m c).before 2 t0_0 d = (insOf m c).k := by
  unfold Dat.before; rw [if_pos (fetch0_2 _)]
  funext j
  show V1 m c main_v34 _ = V1 m c main_v34 _
  refine congrArg _ (funext fun a => Fin.ext ?_)
  blk_simp
  exact (congrArg (· + (j a).val) (Nat.zero_mul _)).trans (Nat.zero_add _)
theorem before_3 (d) : (dat m c).before 3 t0_0 d = (insOf m c).v := by
  unfold Dat.before; rw [if_pos (fetch0_3 _)]
  funext j
  show V1 m c main_v35 _ = V1 m c main_v35 _
  refine congrArg _ (funext fun a => Fin.ext ?_)
  blk_simp
  exact (congrArg (· + (j a).val) (Nat.zero_mul _)).trans (Nat.zero_add _)
theorem before_4 (d) : (dat m c).before 4 t0_0 d = (insOf m c).wo := by
  unfold Dat.before; rw [if_pos (fetch0_4 _)]
  funext j
  show V1 m c main_arg4 _ = V1 m c main_arg4 _
  refine congrArg _ (funext fun a => Fin.ext ?_)
  blk_simp
  exact (congrArg (· + (j a).val) (Nat.zero_mul _)).trans (Nat.zero_add _)

theorem owed_first (c : Dev nD) : (dat m c).owed t0_0.castSucc = rem c 0 := by
  show (if (t0_0.castSucc : Fin (cfg0.N + 1)).val = 0 then rem c 0 else 0) = _; exact if_pos rfl
theorem owed_zero (c : Dev nD) : (pdats m 0 c).owed 0 = rem c 0 := by
  show (if ((0 : Fin (cfg0.N + 1)).val = 0) then rem c 0 else 0) = _; exact if_pos rfl
theorem owed_last (c : Dev nD) : (pdats m 0 c).owed (Fin.last _) = 0 := by
  show (if (Fin.last cfg0.N).val = 0 then rem c 0 else 0) = 0
  rw [Fin.val_last, if_neg (by rw [show cfg0.N = 1 from N_0]; decide)]

theorem owes_in (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owes_out (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The kernel's body, run on a device's part and closed. -/
theorem run_closed {h5 h6 h7 h8 h9} :
    iprop(ctx J K c ∗ insAt c (J c) ∗ anyAt c oM ∗ scratch c ∗ before c ∗ ow c 0)
      ⊢ Run c (loopBody (F := F) xM qM kM vM wM oM h5 cM h6 pM h7 sM h8 rM h9 cc0_scratch4 cc0_scratch5 cc0_scratch6 cc0_scratch7)
        (fun _ => iprop(insAt c (J c) ∗ owns (c : Thread nD τ) oM fullShare (outV J) ∗ scratch c ∗ zeros c ∗ ow c 35)) := by
  have h := run_seq (Q := fun _ => iprop(insAt c (J c) ∗ owns (c : Thread nD τ) oM fullShare (outV J) ∗ scratch c ∗ zeros c ∗ ow c 35))
    (k := fun _ : PUnit => (.ret ⟨⟩ : Code F PUnit)) (run_loop J K c (h5 := h5) (h6 := h6) (h7 := h7) (h8 := h8) (h9 := h9))
  rw [show (loopBody (F := F) xM qM kM vM wM oM h5 cM h6 pM h7 sM h8 rM h9 cc0_scratch4 cc0_scratch5 cc0_scratch6 cc0_scratch7 >>= fun _ => (.ret ⟨⟩ : Code F PUnit))
    = loopBody xM qM kM vM wM oM h5 cM h6 pM h7 sM h8 rM h9 cc0_scratch4 cc0_scratch5 cc0_scratch6 cc0_scratch7 from Prog.bind_pure _] at h
  iintro ⟨#HC, HI, Ho, Hs, Hb, HO⟩
  iapply h $$ [HI Ho Hs Hb HO]
  · isplitr; · iexact HC
    isplitl [HI]; · iexact HI
    isplitl [Ho]; · iexact Ho
    isplitl [Hs]; · iexact Hs
    isplitl [Hb] <;> iassumption
  iintro %_ ⟨HI, Ho, Hs, Ha, HO⟩
  unfold Run; rw [wp_ret]
  imod (keys_close J K c) $$ [Ha] with Hz
  · isplitr; · iexact HC
    iexact Ha
  imodintro
  isplitl [HI]; · iexact HI
  isplitl [Ho]; · iexact Ho
  isplitl [Hs]; · iexact Hs
  isplitl [Hz] <;> iassumption

set_option maxHeartbeats 2000000 in
theorem body_ok (c : Dev nD) : BodyObligation (dat m c) defs₀ 𝒱₀ () Set.univ := fun t => by
  obtain rfl := fin_N0 t
  rw [bigSep_W0, bigSep_W0]
  rw [show (dat m c).Φ t0_0.castSucc = entry (insOf m) c from rfl, show (dat m c).Φ t0_0.succ = exit c from rfl]
  show _ ⊢ Run c (bodyAt0 t0_0) _
  rw [show (bodyAt0 t0_0 : Code F PUnit) = loopBody xM qM kM vM wM oM _ cM _ pM _ sM _ rM _ cc0_scratch4 cc0_scratch5 cc0_scratch6 cc0_scratch7 from body_eq_loop _ _ _ _ _ _ _ _ _ _ _ _ _ _ _ _ _ _ _ _ _ _ _ _]
  unfold entry exit
  iintro ⟨⟨⟨%K, #HC, Hb⟩, Hs, Hp⟩, HO, ⟨%d0, H0⟩, ⟨%d1, H1⟩, ⟨%d2, H2⟩, ⟨%d3, H3⟩, ⟨%d4, H4⟩, ⟨%d5, H5⟩⟩
  rw [before_0, before_1, before_2, before_3, before_4]
  ihave HO := (owes_out m c _ _ (owed_first m c)) $$ HO
  iapply (wp_wand _ _ _) $$ [HC Hb Hs HO H0 H1 H2 H3 H4 H5]
  · iapply (run_closed (insOf m) K c)
    isplitr; · iexact HC
    isplitl [H0 H1 H2 H3 H4]
    · unfold insAt
      isplitl [H0]; · iexact H0
      isplitl [H1]; · iexact H1
      isplitl [H2]; · iexact H2
      isplitl [H3]; · iexact H3
      iexact H4
    isplitl [H5]; · iapply (any_intro c oM _) $$ H5
    isplitl [Hs]; · iexact Hs
    isplitl [Hb]; · iexact Hb
    unfold ow; iexact HO
  unfold insAt ow
  iintro %_ ⟨⟨H0, H1, H2, H3, H4⟩, H5, Hs, Hz, ⟨%W, HO⟩⟩
  rw [rem_end]
  isplitl [Hz Hs Hp]
  · isplitl [Hz]; · iexact Hz
    isplitl [Hs] <;> iassumption
  isplitl [HO]; · iapply (owes_in m c t0_0.succ 0 (owed_last m c) W); iexact HO
  isplitl [H0]; · iexact H0
  isplitl [H1]; · iexact H1
  isplitl [H2]; · iexact H2
  isplitl [H3]; · iexact H3
  isplitl [H4]; · iexact H4
  iexact H5

/-! ## The region's record -/

/-- What a device brings to the region: the records, the rights to open its copy counters, its duties, its barrier and its credits. -/
def ghost : sProp 𝕄 := iprop(known J K ∗ (bigSep Finset.univ fun k : Key => openTok ER (kcell k c)) ∗ atPos ER (barCell c) 0 ∅ 0
  ∗ eachB c ∗ (eachT c 0 1 0 ∗ eachT c 0 1 1 ∗ eachT c 2 3 0 ∗ eachT c 2 3 1))
def credits : sProp 𝕄 := iprop((eachC c 1 0 ∗ eachC c 1 1 ∗ eachC c 3 0 ∗ eachC c 3 1) ∗ cred (tallyAt (barCell c) () 7))
def brought : sProp 𝕄 := iprop((∃ K, ghost J K c) ∗ credits c)
def opened : sProp 𝕄 := iprop(∃ K, ctx J K c ∗ before c)

theorem region_open : iprop(brought J c ∗ Pipeline.ownSems0 ownSem c ∗ levAts L lv) ⊢ (|={Set.univ}=> opened J c : sProp 𝕄) := by
  rw [show (Pipeline.ownSems0 ownSem c : sProp 𝕄) = bigSep Finset.univ fun k : Key => semVal (kcell k c) 0 from rfl]
  unfold brought opened ghost credits before
  iintro ⟨⟨⟨%K, #HK, Ho, Hat, HB, HT⟩, HC, Hbar⟩, Hs, -⟩
  imod (keys_open J K c) $$ [Ho Hs] with ⟨HP, #HO⟩
  · isplitr; · iexact HK
    isplitl [Ho] <;> iassumption
  imodintro
  iexists K
  isplitr
  · unfold ctx
    isplitr; · iexact HK
    iexact HO
  isplitl [HB]; · iexact HB
  isplitl [HT]; · iexact HT
  isplitl [HP]; · iapply (Entails.of_eq (keys fun k => (atPos ER (kcell k c) 0 ∅ 0 : sProp 𝕄))) $$ HP
  isplitl [HC]; · iexact HC
  isplitl [Hat] <;> iassumption

theorem scratch_eq : (Pipeline.scopedRest (Ix := Unit) (Name := ℕ) (U := UU) (Lvl := ℕ) (Val := Elt F) spec0 c : sProp 𝕄) = scratch c := by
  rw [scopedRest0_eq]
  unfold scratch anyAt
  simp only [owns_whole_eq]
  refine Entails.antisymm ?_ ?_
  · show (_ : sProp 𝕄) ⊢ _
    iintro ⟨⟨%f0, H0⟩, ⟨%f1, H1⟩, ⟨%f2, H2⟩, ⟨%f3, H3⟩⟩
    isplitl [H0]
    · iexists f0; iexists f0; isplitr; (ipureintro; rfl); iexact H0
    isplitl [H1]
    · iexists f1; iexists f1; isplitr; (ipureintro; rfl); iexact H1
    isplitl [H2]
    · iexists f2; iexists f2; isplitr; (ipureintro; rfl); iexact H2
    iexists f3; iexists f3; isplitr; (ipureintro; rfl); iexact H3
  · show (_ : sProp 𝕄) ⊢ _
    iintro ⟨⟨%X0, %f0, -, H0⟩, ⟨%X1, %f1, -, H1⟩, ⟨%X2, %f2, -, H2⟩, ⟨%X3, %f3, -, H3⟩⟩
    isplitl [H0]; · iexists f0; iexact H0
    isplitl [H1]; · iexists f1; iexact H1
    isplitl [H2]; · iexists f2; iexact H2
    iexists f3; iexact H3

theorem no_held (V : Valuation τ sig (Elt F)) : (StableHlo.held (c.tc : Thread nD τ) ∅ V : sProp 𝕄) = iprop(emp) := by
  unfold StableHlo.held; exact BI.bigSep_empty

theorem region_in : iprop(Pipeline.scopedRest spec0 c ∗ (∃ r, prngReg c r) ∗ StableHlo.held (c.tc : Thread nD τ) ∅ (V1 m c) ∗ opened (insOf m) c)
    ⊢ (pdats m 0 c).Φ 0 := by
  rw [show (pdats m 0 c).Φ 0 = entry (insOf m) c from rfl, scratch_eq]
  unfold entry opened
  iintro ⟨Hs, Hp, -, HK⟩
  isplitl [HK]; · iexact HK
  isplitl [Hs] <;> iassumption

theorem region_out : (pdats m 0 c).Φ (Fin.last cfg0.N)
    ⊢ iprop(Pipeline.scopedRest spec0 c ∗ (∃ r, prngReg c r) ∗ StableHlo.held (c.tc : Thread nD τ) ∅ (V2 m (outsOf m) c) ∗ Pipeline.ownSems0 ownSem c ∗ semVal (barCell c) 0) := by
  rw [show (pdats m 0 c).Φ (Fin.last cfg0.N) = exit c from rfl, scratch_eq, no_held,
    show (Pipeline.ownSems0 ownSem c : sProp 𝕄) = bigSep Finset.univ fun k : Key => semVal (kcell k c) 0 from rfl]
  unfold exit zeros
  iintro ⟨⟨Hk, Hb⟩, Hs, Hp⟩
  isplitl [Hs]; · iexact Hs
  isplitl [Hp]; · iexact Hp
  isplitr; · iempintro
  isplitl [Hk]; · iexact Hk
  iexact Hb

theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem staging_low : ∀ (w : Fin 6) (s : Fin (win0 w).nbuf), lvS (.dma ((win0 w).sem s)) ≤ 0 := by decide

theorem owed_high (t : Fin (cfg0.N + 1)) (g : GSem nD τ sig) (i : Unit) (h : 0 < (dat m c).owed t g i) : i ∈ L g ∧ (0 : ℕ) < lv g i := by
  have e : (dat m c).owed t = if t.val = 0 then rem c 0 else 0 := rfl
  rw [e] at h
  split at h
  · obtain ⟨n, -, -, rfl⟩ := rem_pos h
    refine ⟨dueCell_tc c n, ?_⟩
    rw [← dueCell_lv]
    split
    · decide
    · split <;> decide
  · exact absurd h (Nat.lt_irrefl 0)

theorem arr_before (w : Fin 6) : (dat m c).arrAt w 0 = V1 m c (Proc.devRef .tc (Pipeline.arrRef spec0 w)) := rfl
set_option maxHeartbeats 4000000 in
theorem arr_after : (w : Fin 6) → (dat m c).arrAt w cfg0.N = V2 m (outsOf m) c (Proc.devRef .tc (Pipeline.arrRef spec0 w))
  | ⟨0, _⟩ => ((dat m c).arrAt_in 0 rfl _).trans (V2_of m (outsOf m) c main_v5 (by decide)).symm
  | ⟨1, _⟩ => ((dat m c).arrAt_in 1 rfl _).trans (V2_of m (outsOf m) c main_arg1 (by decide)).symm
  | ⟨2, _⟩ => ((dat m c).arrAt_in 2 rfl _).trans (V2_of m (outsOf m) c main_v34 (by decide)).symm
  | ⟨3, _⟩ => ((dat m c).arrAt_in 3 rfl _).trans (V2_of m (outsOf m) c main_v35 (by decide)).symm
  | ⟨4, _⟩ => ((dat m c).arrAt_in 4 rfl _).trans (V2_of m (outsOf m) c main_arg4 (by decide)).symm
  | ⟨5, _⟩ => by
    have e : V2 m (outsOf m) c main_v36 = outV (insOf m) := by
      show Function.update (V1 m c) main_v36 (outsOf m 2 main_v36 c) main_v36 = _
      rw [Function.update_self, outsOf_res]
    refine (Dat.arrAt_eq_of_after_last (dat m c) 5 t0_0 (by decide +kernel) (outV (insOf m)) fun j => ?_).trans e.symm
    rfl
  | ⟨_ + 6, h⟩ => absurd h (Nat.not_lt.2 (Nat.le_add_left _ _))

/-- The buffers the call does not touch. -/
abbrev others : Finset (DevRef τ sig) := Pipeline.ucRefs τ sig \ Pipeline.arrRefs spec0

theorem res_mem : (Proc.devRef .tc main_v36 : DevRef τ sig) ∈ Pipeline.arrRefs (τ := τ) spec0 := by
  unfold Pipeline.arrRefs
  exact Finset.mem_map_of_mem _ (Finset.mem_image_of_mem _ (Finset.mem_univ (5 : Fin 6)))
theorem others_kept (b : DevRef τ sig) (hb : b ∈ others \ ∅) : V2 m (outsOf m) c b = V1 m c b := by
  refine Function.update_of_ne (fun e => ?_) _ _
  subst e
  exact (Finset.mem_sdiff.mp (Finset.mem_sdiff.mp hb).1).2 res_mem

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 ownSem ownSems
    ∅ others (Finset.empty_subset _) layout rfl (fun c => (body_ok m c).loose)
    (fun _ => 0) (fun c => rem c 0) (fun c => (owed_zero m c).trans (zero_add _).symm) (owed_last m) (fun _ => rfl) (fun c => (dat m c).share_full fun _ => rfl)
    (V1 m) (V2 m (outsOf m)) (fun c b hb => others_kept m c b hb)
    (brought (insOf m)) (fun c => semVal (barCell c) 0) (opened (insOf m)) (fun c => semVal (barCell c) 0)
    (region_open (insOf m)) (region_in m) (region_out m)
    (fun c => by iintro H; imodintro; iexact H)
    (fun _ => 0)
    ⟨fun c w s => by rw [L_tc]; exact Finset.mem_singleton_self _, fun c w s => staging_low w s, fun c t g i h => owed_high m c t g i h⟩
    (fun _ => iprop(emp))
    (fun c w => arr_before m c w) (fun c w => arr_after m c w)

end Cert.KernelIdeal.Exchange
-- ==== Proof.Run.lean ====
module

public import proofs.«01_k».proof.Proof.Region

/-! The whole run on eight devices: the counters funded and dealt at launch, the operations before and after the call, and what every final state holds. -/

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

open Idealize.ShloMosaic.Pipeline (Seg)

variable (J : Dev nD → Ins F) (K : GSem nD τ sig → ℕ) (m : (ℓ : Loc nD τ sig) → Buf (Elt F) ℓ) (ρ : Dev nD → PrngReg) (c : Dev nD)

/-! ## The counters and the duties, as finite sets -/

theorem ownSem_inj : Function.Injective ownSem := ownSems.inj
theorem ownSem_ne (k : Key) : ownSem k ≠ .reg barSem.sem := nofun
def barEmb : Dev nD ↪ GSem nD τ sig := ⟨fun c => barCell c, fun _ _ h => congrArg (fun g : GSem nD τ sig => g.1.1) h⟩
def keyEmb : Dev nD × Key ↪ GSem nD τ sig := ⟨fun p => kcell p.2 p.1, fun _ _ h =>
  Prod.ext (congrArg (fun g : GSem nD τ sig => g.1.1) h) (ownSem_inj (congrArg Prod.snd h))⟩
abbrev barCells : Finset (GSem nD τ sig) := Finset.univ.map barEmb
abbrev keyCells : Finset (GSem nD τ sig) := Finset.univ.map keyEmb

abbrev Duty : Type := GSem nD τ sig × ℕ × Fin 7
def barDuty : Dev nD × Fin 7 ↪ Duty := ⟨fun p => (barCell p.1, 0, p.2), fun _ _ h =>
  Prod.ext (congrArg (fun t : Duty => t.1.1.1) h) (congrArg (fun t : Duty => t.2.2) h)⟩
def keyDuty : Dev nD × Key ↪ Duty := ⟨fun p => (kcell p.2 p.1, 0, 0), fun _ _ h => keyEmb.injective (congrArg Prod.fst h)⟩
abbrev barDuties : Finset Duty := Finset.univ.map barDuty
abbrev keyDuties : Finset Duty := Finset.univ.map keyDuty

theorem cells_disjoint : Disjoint (barCells : Finset (GSem nD τ sig)) keyCells := by
  rw [Finset.disjoint_left]
  rintro g h₁ h₂
  obtain ⟨c, -, rfl⟩ := Finset.mem_map.mp h₁
  obtain ⟨p, -, h⟩ := Finset.mem_map.mp h₂
  exact ownSem_ne p.2 (congrArg Prod.snd h)
theorem duties_disjoint : Disjoint barDuties keyDuties := by
  rw [Finset.disjoint_left]
  rintro g h₁ h₂
  obtain ⟨c, -, rfl⟩ := Finset.mem_map.mp h₁
  obtain ⟨p, -, h⟩ := Finset.mem_map.mp h₂
  exact ownSem_ne p.2 (congrArg (fun t : Duty => t.1.2) h)

/-! ## Dealing the duties: each device gets those it pays -/

/-- Pairs of a device and a turn, the device moved on by that turn. -/
def turns : Dev nD × Fin 7 ≃ Dev nD × Fin 7 := ⟨fun p => (fwd p.1 p.2, p.2), fun p => (bwd p.1 p.2, p.2),
  fun p => Prod.ext ((turn p.2).left_inv p.1) rfl, fun p => Prod.ext ((turn p.2).right_inv p.1) rfl⟩
/-- A family over devices, read one turn on. -/
theorem around {M : Type} [URA M] (Ψ : Fin 7 → Dev nD → sProp M) :
    (bigSep Finset.univ fun c : Dev nD => bigSep Finset.univ fun r : Fin 7 => Ψ r c)
      = bigSep Finset.univ fun c : Dev nD => bigSep Finset.univ fun r : Fin 7 => Ψ r (fwd c r) := by
  rw [← bigSep_univ_prod (fun p : Dev nD × Fin 7 => Ψ p.2 p.1), ← bigSep_univ_prod (fun p : Dev nD × Fin 7 => Ψ p.2 (fwd p.1 p.2))]
  exact bigSep_univ_equiv turns (fun p : Dev nD × Fin 7 => Ψ p.2 p.1)

theorem bars_dealt : (bigSep barDuties fun x => (dutyTok ER x.1 x.2.1 x.2.2 : sProp 𝕄)) = bigSep Finset.univ fun c : Dev nD => eachB c := by
  rw [bigSep_map, bigSep_univ_prod]
  rw [show (fun c : Dev nD => bigSep Finset.univ fun r : Fin 7 => (dutyTok ER (barDuty (c, r)).1 (barDuty (c, r)).2.1 (barDuty (c, r)).2.2 : sProp 𝕄))
    = fun c : Dev nD => bigSep Finset.univ fun r : Fin 7 => (dutyTok ER (barCell c) 0 (rev r) : sProp 𝕄) from
      funext fun c => by_rev fun r => (dutyTok ER (barCell c) 0 r : sProp 𝕄)]
  exact around fun r c => (dutyTok ER (barCell c) 0 (rev r) : sProp 𝕄)

abbrev own (a : Fin 4) (g : Fin 2) (c : Dev nD) : sProp 𝕄 := bigSep Finset.univ fun r : Fin 7 => dutyTok ER (dcell a g r c) 0 (0 : Fin 7)
abbrev next (a : Fin 4) (g : Fin 2) (c : Dev nD) : sProp 𝕄 := bigSep Finset.univ fun r : Fin 7 => dutyTok ER (dcell a g r (fwd c r)) 0 (0 : Fin 7)
theorem own_next (a : Fin 4) (g : Fin 2) : (bigSep Finset.univ fun c : Dev nD => (own a g c : sProp 𝕄)) = bigSep Finset.univ fun c : Dev nD => next a g c :=
  around fun r c => (dutyTok ER (dcell a g r c) 0 (0 : Fin 7) : sProp 𝕄)

theorem eachT_eq (a b : Fin 4) (g : Fin 2) : (eachT c a b g : sProp 𝕄) = iprop(own a g c ∗ next b g c) := both _ _

theorem over (Φ Ψ : Dev nD → sProp 𝕄) : (bigSep Finset.univ fun c => iprop(Φ c ∗ Ψ c)) = iprop(bigSep Finset.univ Φ ∗ bigSep Finset.univ Ψ) := bigSep_sep' _ _ _

theorem deal_out (Φ Ψ : Dev nD → sProp 𝕄) : (bigSep Finset.univ fun c => iprop(Φ c ∗ Ψ c)) ⊢ iprop(bigSep Finset.univ Φ ∗ bigSep Finset.univ Ψ) := Entails.of_eq (over Φ Ψ)
theorem deal_in (Φ Ψ : Dev nD → sProp 𝕄) : iprop(bigSep Finset.univ Φ ∗ bigSep Finset.univ Ψ) ⊢ (bigSep Finset.univ fun c => iprop(Φ c ∗ Ψ c)) := Entails.of_eq (over Φ Ψ).symm

theorem keys_dealt : (bigSep keyDuties fun x => (dutyTok ER x.1 x.2.1 x.2.2 : sProp 𝕄))
    ⊢ bigSep Finset.univ fun c : Dev nD => iprop(eachT c 0 1 0 ∗ eachT c 0 1 1 ∗ eachT c 2 3 0 ∗ eachT c 2 3 1) := by
  have e : (bigSep keyDuties fun x => (dutyTok ER x.1 x.2.1 x.2.2 : sProp 𝕄))
      = bigSep Finset.univ fun c : Dev nD => iprop(own 0 0 c ∗ own 0 1 c ∗ own 1 0 c ∗ own 1 1 c ∗ own 2 0 c ∗ own 2 1 c ∗ own 3 0 c ∗ own 3 1 c) := by
    rw [bigSep_map, bigSep_univ_prod]
    exact bigSep_congr fun c _ => keys fun k => (dutyTok ER (kcell k c) 0 (0 : Fin 7) : sProp 𝕄)
  have e' (c : Dev nD) : (iprop(eachT c 0 1 0 ∗ eachT c 0 1 1 ∗ eachT c 2 3 0 ∗ eachT c 2 3 1) : sProp 𝕄)
      = iprop((own 0 0 c ∗ next 1 0 c) ∗ (own 0 1 c ∗ next 1 1 c) ∗ (own 2 0 c ∗ next 3 0 c) ∗ (own 2 1 c ∗ next 3 1 c)) := by
    rw [eachT_eq, eachT_eq, eachT_eq, eachT_eq]
  rw [e, bigSep_congr fun c _ => e' c]
  simp only [over]
  rw [← own_next 1 0, ← own_next 1 1, ← own_next 3 0, ← own_next 3 1]
  iintro ⟨H00, H01, H10, H11, H20, H21, H30, H31⟩
  iframe

/-! ## The launch credit -/

def dueSem (n : ℕ) : SemLoc sig :=
  match n / 7 with
  | 0 => .reg barSem.sem
  | 1 => ownSem (1, 0, f7 n)
  | 2 => ownSem (1, 1, f7 n)
  | 3 => ownSem (3, 0, f7 n)
  | _ => ownSem (3, 1, f7 n)

theorem dueCell_eq (d : Dev nD) (n : ℕ) : dueCell d n = (((fwd d (f7 n) : Dev nD) : Thread nD τ), dueSem n) := by
  unfold dueCell dueSem
  generalize n / 7 = q
  rcases q with _ | _ | _ | _ | q <;> rfl

theorem due_at (d c : Dev nD) (n : ℕ) (sm : SemLoc sig) :
    due d n ((c : Thread nD τ), sm) () = if d = bwd c (f7 n) then (if sm = dueSem n then dueAmt n else 0) else 0 := by
  unfold due
  rw [tallyAt_apply, dueCell_eq]
  by_cases hd : d = bwd c (f7 n)
  · subst hd
    rw [if_pos rfl, show fwd (bwd c (f7 n)) (f7 n) = c from (turn (f7 n)).right_inv c]
    by_cases hs : sm = dueSem n
    · subst hs; rw [if_pos ⟨rfl, rfl⟩, if_pos rfl]
    · rw [if_neg (fun h => hs (congrArg Prod.snd h.1)), if_neg hs]
  · rw [if_neg hd, if_neg fun h => hd ?_]
    have e : c = fwd d (f7 n) := congrArg (fun g : GSem nD τ sig => g.1.1) h.1
    rw [e]; exact ((turn (f7 n)).left_inv d).symm

theorem rem_at (d : Dev nD) (n : ℕ) (g : GSem nD τ sig) : rem d n g () = ∑ i ∈ Finset.Ico n 35, due d i g () := by
  unfold rem
  rw [Finset.sum_apply, Finsupp.finset_sum_apply]

/-- What all devices together owe a counter: every promise naming it, once. -/
theorem owed_all (c : Dev nD) (sm : SemLoc sig) :
    (∑ d : Dev nD, rem d 0 ((c : Thread nD τ), sm) ()) = ∑ i ∈ Finset.Ico 0 35, if sm = dueSem i then dueAmt i else 0 := by
  rw [Finset.sum_congr rfl fun d _ => rem_at d 0 _, Finset.sum_comm]
  refine Finset.sum_congr rfl fun i _ => ?_
  rw [Finset.sum_congr rfl fun d _ => due_at d c i sm, Finset.sum_ite_eq' Finset.univ, if_pos (Finset.mem_univ _)]

theorem owed_bar : (∑ i ∈ Finset.Ico 0 35, if (SemLoc.reg barSem.sem : SemLoc sig) = dueSem i then dueAmt i else 0) = 7 := by decide +kernel
theorem owed_one (g : Fin 2) (r : Fin 7) : (∑ i ∈ Finset.Ico 0 35, if ownSem (1, g, r) = dueSem i then dueAmt i else 0) = N := by
  revert g r; decide +kernel
theorem owed_three (g : Fin 2) (r : Fin 7) : (∑ i ∈ Finset.Ico 0 35, if ownSem (3, g, r) = dueSem i then dueAmt i else 0) = N := by
  revert g r; decide +kernel

abbrev O₀ (c : Dev nD) : CellTallies nD τ sig Unit := rem c 0

theorem launch_at (sm : SemLoc sig) (n : ℕ) (h : (∑ i ∈ Finset.Ico 0 35, if sm = dueSem i then dueAmt i else 0) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, owed_all, h]

theorem creds : (Pipeline.launchCred O₀ c : sProp 𝕄) ⊢ credits c := by
  unfold Pipeline.launchCred credits
  rw [bigSep_univ_at _ (SemLoc.reg barSem.sem), launch_at c (SemLoc.reg barSem.sem) 7 owed_bar]
  have hk : (bigSep (Finset.univ.erase (SemLoc.reg barSem.sem)) fun sm : SemLoc sig => (cred (tallyOn ((c : Thread nD τ), sm) (launchCredit (Pipeline.owing O₀) 0 ((c : Thread nD τ), sm))) : sProp 𝕄))
      ⊢ bigSep Finset.univ fun k : Key => cred (tallyOn (kcell k c) (launchCredit (Pipeline.owing O₀) 0 (kcell k c))) := by
    refine (BI.bigSep_subset (t := Finset.univ.map ⟨ownSem, ownSem_inj⟩) fun s hs => ?_).trans ?_
    · obtain ⟨k, -, rfl⟩ := Finset.mem_map.mp hs
      exact Finset.mem_erase.mpr ⟨ownSem_ne k, Finset.mem_univ _⟩
    · rw [bigSep_map]; exact BI.Entails.refl _
  rw [keys] at hk
  have e1 (g : Fin 2) : (bigSep Finset.univ fun r : Fin 7 => (cred (tallyOn (kcell (1, g, r) c) (launchCredit (Pipeline.owing O₀) 0 (kcell (1, g, r) c))) : sProp 𝕄)) = eachC c 1 g :=
    bigSep_congr fun r _ => congrArg cred (launch_at c (ownSem (1, g, r)) N (owed_one g r))
  have e3 (g : Fin 2) : (bigSep Finset.univ fun r : Fin 7 => (cred (tallyOn (kcell (3, g, r) c) (launchCredit (Pipeline.owing O₀) 0 (kcell (3, g, r) c))) : sProp 𝕄)) = eachC c 3 g :=
    bigSep_congr fun r _ => congrArg cred (launch_at c (ownSem (3, g, r)) N (owed_three g r))
  rw [e1, e1, e3, e3] at hk
  iintro ⟨Hb, H⟩
  ihave H' := hk $$ H
  icases H' with ⟨-, -, H10, H11, -, -, H30, H31⟩
  iframe

/-! ## The launch -/

def u₀ : UU := (initOf (Pipeline.cells cfgs cellOf_inj) (Pipeline.launchToks cfgs cellOf_inj), launchOf barCells keyCells (barDuties ∪ keyDuties))

/-- The exchange's launch element, kept whole on the first device until it is dealt. -/
def parked (c : Dev nD) : sProp 𝕄 := if c = 0 then BI.own (ER (launchOf barCells keyCells (barDuties ∪ keyDuties))) else iprop(emp)
theorem parked_all : bigSep Finset.univ (parked (F := F)) = BI.own (ER (launchOf barCells keyCells (barDuties ∪ keyDuties))) := by
  rw [bigSep_univ_at _ (0 : Dev nD), bigSep_congr (s := Finset.univ.erase (0 : Dev nD)) (Ψ := fun _ => (BI.emp : sProp 𝕄)) (fun c hc => by
    unfold parked; rw [if_neg (Finset.ne_of_mem_erase hc)]; rfl), BI.bigSep_emp_const, show parked (F := F) 0 = _ from if_pos rfl]
  exact BI.equiv_iff.mp sep_emp

/-- What a device takes from the dealing, beyond the shared records. -/
def dealt (c : Dev nD) : sProp 𝕄 := iprop((bigSep Finset.univ fun k : Key => openTok ER (kcell k c)) ∗ atPos ER (barCell c) 0 ∅ 0
  ∗ eachB c ∗ (eachT c 0 1 0 ∗ eachT c 0 1 1 ∗ eachT c 2 3 0 ∗ eachT c 2 3 1))
/-- What a device has of its own at launch. -/
def startup (c : Dev nD) : sProp 𝕄 := iprop(StableHlo.held (c : Thread nD τ) (Pipeline.ucRefs τ sig) (V0 m c) ∗ credits c ∗ owes (c : Thread nD τ) (O₀ c) ∅ ∗ ∃ r, prngReg c r)

/-- What rides along the operations before the call, and after it. -/
def rider (i : Fin 2) (c : Dev nD) : sProp 𝕄 :=
  if i = 0 then iprop(brought (insOf m) c ∗ (∃ r, prngReg c r) ∗ ∃ Wd, owes (c : Thread nD τ) (O₀ c) Wd)
  else iprop(semVal (barCell c) 0 ∗ ∃ Wd, owes (c : Thread nD τ) (0 : CellTallies nD τ sig Unit) Wd)

abbrev T₀ (c : Dev nD) : sProp 𝕄 := iprop(StableHlo.held (c : Thread nD τ) (Pipeline.ucRefs τ sig) (V0 m c) ∗ rider m 0 c)
abbrev Tₙ (c : Dev nD) : sProp 𝕄 := iprop(StableHlo.held (c : Thread nD τ) (Pipeline.ucRefs τ sig) (V3 m (outsOf m) c) ∗ semVal (barCell c) 0)

theorem T₀_intro : iprop(known (insOf m) K ∗ (dealt c ∗ startup m c)) ⊢ T₀ m c := by
  unfold startup dealt T₀ rider
  rw [if_pos rfl]
  unfold brought ghost
  iintro ⟨#HK, ⟨Ho, Hat, HB, HT⟩, Hh, HC, HO, Hp⟩
  isplitl [Hh]; · iexact Hh
  isplitl [Ho Hat HB HT HC]
  · isplitl [Ho Hat HB HT]
    · iexists K
      isplitr; · iexact HK
      iframe
    · iexact HC
  isplitl [Hp]; · iexact Hp
  iexists ∅; iexact HO

theorem unscoped_sems : (unscopedSems0 c : sProp 𝕄) = semVal (barCell c) 0 := by
  unfold unscopedSems0
  rw [show (Finset.univ.filter fun sm : SemLoc sig => ¬ sm.isScoped .tc) = {SemLoc.reg barSem.sem} from by decide, BI.bigSep_singleton]

theorem known_intro : iprop((bigSep (barCells ∪ keyCells) fun g => cellInv ER (Rd J) (K g) g) ∗ (bigSep barCells fun g => reached ER g 0) ∗ levAts L lv)
    ⊢ (known J K : sProp 𝕄) := by
  have e : (bigSep (barCells ∪ keyCells) fun g => cellInv ER (Rd J) (K g) g : sProp 𝕄)
      = iprop((bigSep Finset.univ fun p : Dev nD => cellInv ER (Rd J) (K (barCell p)) (barCell p))
        ∗ bigSep Finset.univ fun p : Dev nD => bigSep Finset.univ fun k : Key => cellInv ER (Rd J) (K (kcell k p)) (kcell k p)) := by
    rw [BI.bigSep_union cells_disjoint, bigSep_map, bigSep_map, bigSep_univ_prod]; rfl
  have e' : (bigSep barCells fun g => reached ER g 0 : sProp 𝕄) = bigSep Finset.univ fun p : Dev nD => reached ER (barCell p) 0 := bigSep_map _
  unfold known
  rw [e, e']
  iintro ⟨⟨H1, H2⟩, H3, H4⟩
  isplitl [H1]; · iexact H1
  isplitl [H2]; · iexact H2
  isplitl [H3]; · iexact H3
  iexact H4

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(startup m c ∗ (semVal (barCell c) 0 ∗ parked c)) : sProp 𝕄) := by
    rw [show unscopedBufs c (fun b => m ((c : Thread nD τ).loc b)) = StableHlo.held (c : Thread nD τ) (Pipeline.ucRefs τ sig) (V0 m c) from
      Pipeline.unscopedBufs_held c (V0 m c), unscoped_sems]
    unfold startup
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep keyCells (fun g => (openTok ER g : sProp 𝕄))
      ⊢ bigSep Finset.univ (fun c : Dev nD => bigSep Finset.univ fun k : Key => openTok ER (kcell k c)) :=
    Entails.of_eq (by rw [bigSep_map, bigSep_univ_prod]; rfl)
  have htok : bigSep (barDuties ∪ keyDuties) (fun x => (dutyTok ER x.1 x.2.1 x.2.2 : sProp 𝕄))
      ⊢ iprop((bigSep Finset.univ fun c : Dev nD => eachB c) ∗ bigSep Finset.univ fun c : Dev nD => iprop(eachT c 0 1 0 ∗ eachT c 0 1 1 ∗ eachT c 2 3 0 ∗ eachT c 2 3 1)) := by
    rw [BI.bigSep_union duties_disjoint]
    exact BI.sep_mono (Entails.of_eq bars_dealt) keys_dealt
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(startup m c ∗ (semVal (barCell c) 0 ∗ parked c)) : sProp 𝕄) from bigSep_mono fun c _ => hcore c) $$ H
  ihave H2 := (deal_out _ _) $$ H'; icases H2 with ⟨HB, H3⟩
  ihave H4 := (deal_out _ _) $$ H3; icases H4 with ⟨Hv, HG⟩
  ihave Hu := (show bigSep Finset.univ (parked (F := F)) ⊢ BI.own (ER (launchOf barCells keyCells (barDuties ∪ keyDuties))) from Entails.of_eq parked_all) $$ HG
  imod (Rounds.fund_launch ER (Rd (insOf m)) cells_disjoint (fun g _ h => h) (barDuties ∪ keyDuties)) $$ [Hv Hu] with ⟨%κ, -, #Hinv, #Hr, Hat, Hopen, Htok⟩
  · isplitl [Hv]
    · iapply hv $$ Hv
    · iexact Hu
  imodintro
  iapply (bigSep_with_persistent (R := known (insOf m) κ) (Φ := fun c => iprop(dealt c ∗ startup m c)) fun c _ => T₀_intro κ m c)
  isplitr
  · iapply (known_intro (insOf m) κ)
    isplitr; · iexact Hinv
    isplitr; · iexact Hr
    iexact Hlev
  iapply (deal_in _ _)
  isplitr [HB]
  · unfold dealt
    iapply (deal_in _ _); isplitl [Hopen]; · iapply hopen $$ Hopen
    iapply (deal_in _ _); isplitl [Hat]; · iapply hat $$ Hat
    iapply (deal_in _ _)
    iapply htok $$ Htok
  · iexact HB

/-! ## Around the call -/

theorem held_call (V : Valuation τ sig (Elt F)) : StableHlo.held (c : Thread nD τ) (Pipeline.ucRefs τ sig) V
    = (iprop(StableHlo.held (c : Thread nD τ) (Pipeline.arrRefs spec0) V ∗ StableHlo.held (c : Thread nD τ) others V) : sProp 𝕄) :=
  StableHlo.held_sub_split _ (Pipeline.arrRefs_sub_ucRefs spec0 (by decide)) V

theorem call_pre : iprop(StableHlo.held (c : Thread nD τ) (Pipeline.ucRefs τ sig) (V1 m c) ∗ rider m 0 c) ⊢ (region m).pre c := by
  show _ ⊢ iprop(StableHlo.held (c : Thread nD τ) (Pipeline.arrRefs spec0) (V1 m c) ∗ (∃ r, prngReg c r) ∗ (StableHlo.held (c : Thread nD τ) others (V1 m c) ∗ iprop(emp))
    ∗ brought (insOf m) c ∗ ∃ Wd, owes (c : Thread nD τ) (0 + rem c 0) Wd)
  unfold rider
  rw [if_pos rfl, held_call, zero_add]
  iintro ⟨⟨Ha, Ho⟩, HB, Hp, HO⟩
  iframe
theorem call_post : (region m).post c ⊢ iprop(StableHlo.held (c : Thread nD τ) (Pipeline.ucRefs τ sig) (V2 m (outsOf m) c) ∗ rider m 1 c) := by
  show iprop(StableHlo.held (c : Thread nD τ) (Pipeline.arrRefs spec0) (V2 m (outsOf m) c) ∗ (∃ r, prngReg c r) ∗ (StableHlo.held (c : Thread nD τ) others (V2 m (outsOf m) c) ∗ iprop(emp))
    ∗ semVal (barCell c) 0 ∗ ∃ Wd, owes (c : Thread nD τ) 0 Wd) ⊢ _
  unfold rider
  rw [if_neg (by decide), held_call]
  iintro ⟨Ha, -, ⟨Ho, -⟩, HB, HO⟩
  iframe

/-! ## The run -/

theorem unscoped_eq : ∀ sm : SemLoc sig, sm.isScoped .tc = false → sm = .reg barSem.sem := by decide

/-- What a device's arrays hold at the end: the arguments what they held at launch, the result the call's output in the result's shape. -/
def Finals (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v37) = V3 m (outsOf m) c main_v37

set_option maxHeartbeats 1000000 in
set_option backward.isDefEq.respectTransparency.types false in
/-- From any memory, with all counters at zero, every run of the eight devices ends; the arguments are as they were, the result is the call's
    output in the result's shape, and all counters are at zero. -/
theorem run_main : θ_run defs (onTc (τ := τ) (main (F := F))) ⟨m, fun _ => 0, ρ⟩ (fun r => (∀ c : Dev nD, Finals m c r.2) ∧ r.2.sem = fun _ => 0) := by
  refine Pipeline.θ_run_regions_kit_dev_sems (pcfgs (F := F)) adm (pdats m) () cellOf_inj EP defs₀ 𝒱₀ L lv m ρ main
    (segs m (outsOf m) 𝒱₀ L lv (rider m) () (pdats m) (region m))
    (fun c Q => by
      rewrite [main_chain c, Seg.run_eq_chain,
        show (segs m (outsOf m) 𝒱₀ L lv (rider m) () (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne parked u₀
    (by
      unfold u₀
      iintro Hu
      ihave H := (ownU_pair _ _) $$ Hu
      icases H with ⟨HP, HX⟩
      imodintro
      isplitl [HP]; · iexact HP
      rw [parked_all]; iexact HX)
    (T₀ m) (Tₙ m)
    (fun c => ⟨.rfl, call_pre m c, call_post m c, ?_⟩)
    (init m ρ) (fun c s => Finals m c s ∧ s.sem (barCell c) = 0) (fun c s' => ?_)
    (fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outsOf m) c) ∗ rider m 1 c)
      ⊢ iprop(Tₙ m c ∗ ∃ Wd, owes (c : Thread nD τ) (0 : CellTallies nD τ sig Unit) Wd)
    unfold rider Tₙ
    rw [if_neg (by decide)]
    iintro ⟨Hh, Hb, HO⟩
    iframe
  · unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outsOf m) c) s') $$ [Hh HSI]
    · isplitl [Hh] <;> iassumption
    icases Hr with ⟨%h, HSI⟩
    imodintro
    isplitr
    · ipureintro
      have get (r : Ref sig .tc) (hr : ¬ (Proc.devRef (τ := τ) .tc r).isScoped) := h (Proc.devRef .tc r) (Finset.mem_filter.mpr ⟨StableHlo.devRef_mem_tcRefs r, hr⟩)
      exact ⟨⟨⟨(get main_arg0 (by decide)).trans (V3_main_arg0 m _ c), (get main_arg1 (by decide)).trans (V3_main_arg1 m _ c),
        (get main_arg2 (by decide)).trans (V3_main_arg2 m _ c), (get main_arg3 (by decide)).trans (V3_main_arg3 m _ c),
        (get main_arg4 (by decide)).trans (V3_main_arg4 m _ c)⟩, get main_v37 (by decide)⟩, by simpa using hb⟩
    · iexact HSI

end Cert.KernelIdeal.Exchange
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

/-! The three programs end without a fault, leave their arguments as they were, and leave all counters at zero. -/

@[expose] public section

set_option maxRecDepth 65536
set_option maxHeartbeats 4000000

noncomputable section

namespace Cert.Proof

open Idealize.ShloMosaic Idealize.ShloMosaic.TcCoe Idealize.SL.Sem

/-- The ideal program: the exchange's run over the extended reals. -/
theorem frame_ideal : Cert.quiescent_KernelIdeal := fun m ρ _ =>
  (θ_run Cert.KernelIdeal.defs _ _).mono (fun _ h => ⟨fun c => (h.1 c).1, h.2⟩) (Cert.KernelIdeal.Exchange.run_main (F := Ideal) m ρ)

/-- The exchange's run with the values dropped, over any float values. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Exchange.run_main m ρ)

/-- The two kernels' bodies have the same text. -/
theorem bodies_same : Cert.KernelIdeal.defs₀ (F := Bits) = Cert.Kernel.defs₀ (F := Bits) := by
  unfold Cert.KernelIdeal.defs₀ Cert.Kernel.defs₀
  refine congrArg Defs.onTc ?_
  funext l a
  obtain ⟨l, hl⟩ := l
  obtain _ | l := l
  · obtain ⟨t, s⟩ := a
    rfl
  · exact absurd hl (Nat.not_lt.2 (Nat.le_add_left _ _))

/-- So have the two tables. -/
theorem tables_same : Cert.KernelIdeal.defs (F := Bits) = Cert.Kernel.defs (F := Bits) := by
  unfold Cert.KernelIdeal.defs Cert.Kernel.defs
  exact congrArg (Pipeline.defs _) bodies_same

/-- And the two programs that call them. -/
theorem mains_same : Cert.KernelIdeal.main (F := Bits) = Cert.Kernel.main (F := Bits) := by
  funext d
  rfl

/-- The program over the machine's floats: the same text, so the same run. -/
theorem frame_kernel : Cert.quiescent_Kernel := fun m ρ _ => by
  have h := run_kept (F := Bits) m ρ
  rw [mains_same, tables_same] at h
  exact h

/-- The reference, which has no counters at all. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof
-- ==== Proof.Spec.lean ====
module

public import Idealize.ShloMosaic.Lib.Pointwise

/-! Attention within blocks of 64 positions, as a formula over the extended reals that both programs are read to. -/

@[expose] public section

noncomputable section

namespace Cert.Attention

open Idealize.ShloMosaic

/-- Whether query `i` sees key `j`: both lie in one block of 64. -/
def sees (i j : Fin 256) : BitVec 1 := BitVec.ofBool (decide (i.val / 64 = j.val / 64))

/-- Two block numbers compared as words. -/
theorem words_sees (i j : Fin 256) : IntOp.cmpi .eq (BitVec.ofNat 32 (i.val / 64)) (BitVec.ofNat 32 (j.val / 64)) = sees i j := by
  have h : ∀ a b : Fin 4, IntOp.cmpi .eq (BitVec.ofNat 32 a.val) (BitVec.ofNat 32 b.val) = BitVec.ofBool (decide (a.val = b.val)) := by decide
  exact h ⟨i.val / 64, by omega⟩ ⟨j.val / 64, by omega⟩

theorem sees_self (i : Fin 256) : sees i i = 1#1 := by simp [sees]

/-- The factor of the scores, the score of a key that is not seen, and where the maximum starts. -/
abbrev eighth : EReal := Ideal.ofBits .f32 0x3E000000#32
abbrev low : EReal := Ideal.ofBits .f32 0xCE6E6B28#32
abbrev least : EReal := Ideal.ofBits .f32 0xFF800000#32

/-- The scores of query `i` with the keys that it does not see put low. -/
def masked (i : Fin 256) (s : Fin 256 → EReal) (j : Fin 256) : EReal := Scalar.select (sees i j) (s j) low

/-- The weight of key `j` before the division. -/
def heft (i : Fin 256) (s : Fin 256 → EReal) (j : Fin 256) : EReal :=
  Ideal.exp (masked i s j - Finset.fold max least (masked i s) Finset.univ)

/-- The values averaged by the weights. -/
def attend (i : Fin 256) (s v : Fin 256 → EReal) : EReal :=
  ∑ j, Ideal.div (heft i s j) (∑ j', heft i s j') * v j

theorem eighth_eq : eighth = (((1 / 8 : ℝ)) : EReal) := by
  simp [eighth, Ideal.ofBits, Ideal.ieee]
  have h : ((8388608 : ℝ) : EReal) * ((1 / 67108864 : ℝ) : EReal) = ((1 / 8 : ℝ) : EReal) := by
    rw [← EReal.coe_mul]
    norm_num
  norm_num
  exact h

/-- A sum of products each with the factor is the sum with the factor. -/
theorem sum_eighth {n : ℕ} (a b : Fin n → EReal) : ∑ e, a e * eighth * b e = (∑ e, a e * b e) * eighth := by
  have h (S : Finset (Fin n)) : ∑ e ∈ S, a e * eighth * b e = (∑ e ∈ S, a e * b e) * eighth := by
    induction S using Finset.induction_on with
    | empty => simp
    | insert x S hx ih =>
      rw [Finset.sum_insert hx, Finset.sum_insert hx, ih,
        EReal.right_distrib_of_nonneg_of_ne_top (by rw [eighth_eq]; exact_mod_cast (by norm_num : (0 : ℝ) ≤ 1 / 8)) (by rw [eighth_eq]; exact EReal.coe_ne_top _),
        mul_right_comm]
  exact h _

/-- A sum over 2048 places as one over eight times 256. -/
theorem sum_blocks (f : Fin 2048 → EReal) : ∑ r, f r = ∑ c : Fin 8, ∑ k : Fin 256, f ⟨256 * c.val + k.val, by omega⟩ := by
  rw [← Fintype.sum_prod_type', ← Equiv.sum_comp (finProdFinEquiv (m := 8) (n := 256)) f]
  refine Finset.sum_congr rfl fun p _ => congrArg f (Fin.ext ?_)
  show p.2.val + 256 * p.1.val = 256 * p.1.val + p.2.val
  omega

end Cert.Attention
-- ==== Proof.KernelValue.lean ====
module

public import proofs.«01_k».proof.Proof.Places
public import proofs.«01_k».proof.Proof.Spec
public import Idealize.ShloMosaic.Lib.Pointwise
public import Idealize.ShloMosaic.Lib.ValueLayout

/-! What the kernel's result is at each place, over the extended reals. -/

@[expose] public section

set_option maxRecDepth 16384

noncomputable section

namespace Cert.KernelIdeal.Attention

open Idealize.ShloMosaic Idealize.ShloMosaic.TcCoe
open Cert.KernelIdeal Cert.KernelIdeal.Gen Cert.KernelIdeal.Exchange Cert.Attention

/-! ## The mask -/

theorem block_word (i : Fin 256) :
    (Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32)) = BitVec.ofNat 32 (i.val / 64) := by
  revert i
  decide +kernel

theorem mask_at (i j : Fin 256) : maskBits (ix2 i j) = sees i j := by
  pointwise [maskBits, k0_pay2, k0_pay3, k0_pay4, k0_pay5]
  rw [block_word, block_word, words_sees]

/-! ## One head -/

theorem scaled_at (x : Vec Ideal S512x512 .bf16) (w : Vec Ideal S512x256 .bf16) (i : Fin 512) (n : Fin 256) :
    k0_pay1 (F := Ideal) x w (ix2 i n) = (∑ k, x (ix2 i k) * w (ix2 k n)) * eighth := by
  pointwise [k0_pay1]

theorem kv_at (b : Fin 2) (h : Fin 4) (j : Fin 256) (e : Fin 64) : (kvRect b h).emb (ix4 (0 : Fin 1) (0 : Fin 1) j e) = ix4 h b j e := by
  funext a
  apply Fin.ext
  fin_cases a
  · show h.val + 1 * 0 = h.val; omega
  · show b.val + 1 * 0 = b.val; omega
  · show 0 + 1 * j.val = j.val; omega
  · show 0 + 1 * e.val = e.val; omega

theorem head_at (I : Ins Ideal) (b : Fin 2) (h : Fin 4) (i : Fin 256) (d : Fin 64) :
    headV I b h (ix2 i d) = attend i
      (fun j => ∑ e : Fin 64, (∑ k, I.x (ix2 ⟨256 * b.val + i.val, by omega⟩ k) * I.wq (ix2 k ⟨64 * h.val + e.val, by omega⟩)) * eighth * I.k (ix4 h b j e))
      (fun j => I.v (ix4 h b j d)) := by
  unfold attend heft masked
  pointwise [headV, headOut, k0_pay18]
  simp only [kv_at, mask_at, scaled_at]

theorem ctx_at (I : Ins Ideal) (i : Fin 512) (k : Fin 256) :
    ctxV I (ix2 i k) = headV I ⟨i.val / 256, by omega⟩ ⟨k.val / 64, by omega⟩ (ix2 ⟨i.val % 256, by omega⟩ ⟨k.val % 64, by omega⟩) := rfl

/-! ## The sums -/

/-- A device's part of the result. -/
def share (I : Ins Ideal) (i : Fin 512) (n : Fin 512) : EReal := ∑ k, ctxV I (ix2 i k) * I.wo (ix2 k n)

theorem rows_at (I : Ins Ideal) (d : Dev nD) (r : Fin 64) (k : Fin 256) :
    rowsV I d (ix2 r k) = ctxV I (ix2 ⟨64 * d.val + r.val, by have := d.isLt; change d.val < 8 at this; omega⟩ k) := by
  refine congrArg (ctxV I) (funext fun a => Fin.ext ?_)
  fin_cases a
  · show 64 * d.val + 1 * r.val = _; simp
  · show 0 + 1 * k.val = k.val; omega

theorem own_at (I : Ins Ideal) (d : Dev nD) (g : Fin 2) (r : Fin 32) (n : Fin 512) :
    ownHalf (rowsV I d) I.wo g (ix2 r n) = share I ⟨64 * d.val + 32 * g.val + r.val, by have := d.isLt; change d.val < 8 at this; omega⟩ n := by
  fin_cases g
  · pointwise [ownHalf, k0_pay27, k0_pay26]
    simp only [rows_at]
    rfl
  · pointwise [ownHalf, k0_pay32, k0_pay26]
    simp only [rows_at]
    refine Finset.sum_congr rfl fun k _ => ?_
    congr 3
    exact Fin.ext (Nat.add_assoc _ _ _).symm

theorem chunk_at (I : Ins Ideal) (d : Dev nD) (r : Fin 64) (n : Fin 512) :
    chunkV I d (ix2 r n) = share I ⟨64 * d.val + r.val, by have := d.isLt; change d.val < 8 at this; omega⟩ n := by
  pointwise [chunkV, k0_pay19]
  simp only [rows_at]
  rfl

theorem half_at (I : Ins Ideal) (d : Dev nD) (g : Fin 2) (r : Fin 32) (n : Fin 512) :
    halfV I d g (ix2 r n) = share I ⟨64 * d.val + 32 * g.val + r.val, by have := d.isLt; change d.val < 8 at this; omega⟩ n := by
  have hd : d.val < 8 := d.isLt
  have e : (halfRect d g).emb (ix2 r n) = ix2 (⟨64 * d.val + 32 * g.val + r.val, by omega⟩ : Fin 512) n := by
    funext a
    apply Fin.ext
    fin_cases a
    · show 64 * d.val + 32 * g.val + 1 * r.val = 64 * d.val + 32 * g.val + r.val; omega
    · show 0 + 1 * n.val = n.val; omega
  show partV I ((halfRect d g).emb (ix2 r n)) = _
  rw [e]
  refine (chunk_at I ⟨(64 * d.val + 32 * g.val + r.val) / 64, by show _ < 8; omega⟩ ⟨(64 * d.val + 32 * g.val + r.val) % 64, by omega⟩ n).trans ?_
  refine congrArg (fun q => share I q n) (Fin.ext ?_)
  show 64 * ((64 * d.val + 32 * g.val + r.val) / 64) + (64 * d.val + 32 * g.val + r.val) % 64 = _
  simp only
  omega

theorem slot_at (X : Vec Ideal S32x512 .bf16) (r : Fin 32) (n : Fin 512) : slotV X (ix4 (0 : Fin 1) (0 : Fin 1) r n) = X (ix2 r n) := by
  have e := ValueIdx.reshapeEquiv_ix2_11ab (squeezes_S1x1x32x512_S32x512).numel_eq r n
  exact (congrArg (slotV X) e.symm).trans (congrFun (slotV_squeeze X) (ix2 r n))

theorem sum_turns (f : Dev nD → EReal) (c : Dev nD) :
    f c + f (bwd c 0) + f (bwd c 1) + f (bwd c 2) + f (bwd c 3) + f (bwd c 4) + f (bwd c 5) + f (bwd c 6) = ∑ d, f d := by
  have h : ∀ c : Dev nD, (Finset.univ : Finset (Dev nD)).val = {c, bwd c 0, bwd c 1, bwd c 2, bwd c 3, bwd c 4, bwd c 5, bwd c 6} := by decide
  unfold Finset.sum
  rw [h c]
  simp only [Multiset.insert_eq_cons, Multiset.map_cons, Multiset.sum_cons, Multiset.map_singleton, Multiset.sum_singleton]
  ac_rfl

theorem red_at (J : Dev nD → Ins Ideal) (c : Dev nD) (g : Fin 2) (r : Fin 32) (n : Fin 512) :
    redV J c g (ix2 r n) = ∑ d, share (J d) ⟨64 * c.val + 32 * g.val + r.val, by have := c.isLt; change c.val < 8 at this; omega⟩ n := by
  pointwise [redV, sumHalf, k0_pay31, k0_pay30, k0_pay29, k0_pay28]
  simp only [slot_at, half_at, own_at]
  exact sum_turns (fun d => share (J d) ⟨64 * c.val + 32 * g.val + r.val, by have := c.isLt; change c.val < 8 at this; omega⟩ n) c

/-- The result is the sum of the devices' parts. -/
theorem out_at (J : Dev nD → Ins Ideal) (i n : Fin 512) : outV J (ix2 i n) = ∑ d, share (J d) i n := by
  refine (red_at J ⟨i.val / 64, by show _ < 8; omega⟩ ⟨i.val / 32 % 2, by omega⟩ ⟨i.val % 32, by omega⟩ n).trans ?_
  refine Finset.sum_congr rfl fun d _ => congrArg (fun q => share (J d) q n) (Fin.ext ?_)
  show 64 * (i.val / 64) + 32 * (i.val / 32 % 2) + i.val % 32 = i.val
  omega

end Cert.KernelIdeal.Attention
-- ==== Proof.Inputs.lean ====
module

public import proofs.«01_k».proof.Proof.KernelValue
public import proofs.«01_k».proof.Proof.Region
public import Idealize.ShloMosaic.Lib.StableHlo.ReadAt
public import Idealize.ShloMosaic.Lib.DynamicIndex

/-! What each device's kernel reads, in terms of the program's arguments. -/

@[expose] public section

set_option maxRecDepth 16384

noncomputable section

namespace Cert.KernelIdeal.Attention

open Idealize.ShloMosaic Idealize.ShloMosaic.TcCoe
open Cert.KernelIdeal Cert.KernelIdeal.Gen Cert.KernelIdeal.Exchange Cert.Attention

variable (m : (ℓ : Loc nD τ sig) → Buf (Elt Ideal) ℓ)

theorem x_at (c : Dev nD) (i n : Fin 512) :
    V1 m c main_v5 (ix2 i n) = m ((c : Thread nD τ).loc main_arg0) (ix3 (⟨i.val / 256, by omega⟩ : Fin 2) (⟨i.val % 256, by omega⟩ : Fin 256) n) := by
  unfold V1
  after_reads_at

theorem heads_fit (c : Dev nD) : S2x256x32x64.Slices ![0, 0, 4 * c.val, 0] S2x256x4x64 := by
  revert c
  decide

/-- The first head of a device, as the program computes it. -/
theorem first_head (c : Dev nD) :
    (Scalar.select (IntOp.cmpi .slt (IntOp.muli (IntOp.remui .host (IntOp.divui .host (Dev.word c) 1#32) 8#32) 4#32) 0#32)
      (IntOp.addi (IntOp.muli (IntOp.remui .host (IntOp.divui .host (Dev.word c) 1#32) 8#32) 4#32) 32#32)
      (IntOp.muli (IntOp.remui .host (IntOp.divui .host (Dev.word c) 1#32) 8#32) 4#32)).toInt = ((4 * c.val : ℕ) : ℤ) := by
  revert c
  decide +kernel

/-! The starts of the two slices. -/

theorem start_v9 (c : Dev nD) : BitVec.toInt ((StableHlo.upto (hostOps0 c) (V0 m c) 38 (Proc.devRef .tc main_v9) : (⟨S_, .i32⟩ : BufTy).Contents (Elt Ideal)) (Shape.Idx.first h_S_)) = 0 := by
  after_reads_simp
  decide +kernel

theorem start_v12 (c : Dev nD) : BitVec.toInt ((StableHlo.upto (hostOps0 c) (V0 m c) 38 (Proc.devRef .tc main_v12) : (⟨S_, .i32⟩ : BufTy).Contents (Elt Ideal)) (Shape.Idx.first h_S_)) = 0 := by
  after_reads_simp
  decide +kernel

theorem start_v15 (c : Dev nD) : BitVec.toInt ((StableHlo.upto (hostOps0 c) (V0 m c) 38 (Proc.devRef .tc main_v15) : (⟨S_, .i32⟩ : BufTy).Contents (Elt Ideal)) (Shape.Idx.first h_S_)) = ((4 * c.val : ℕ) : ℤ) := by
  after_reads_simp
  exact first_head c

theorem start_v18 (c : Dev nD) : BitVec.toInt ((StableHlo.upto (hostOps0 c) (V0 m c) 38 (Proc.devRef .tc main_v18) : (⟨S_, .i32⟩ : BufTy).Contents (Elt Ideal)) (Shape.Idx.first h_S_)) = 0 := by
  after_reads_simp
  decide +kernel

theorem start_v23 (c : Dev nD) : BitVec.toInt ((StableHlo.upto (hostOps0 c) (V0 m c) 70 (Proc.devRef .tc main_v23) : (⟨S_, .i32⟩ : BufTy).Contents (Elt Ideal)) (Shape.Idx.first h_S_)) = 0 := by
  after_reads_simp
  decide +kernel

theorem start_v26 (c : Dev nD) : BitVec.toInt ((StableHlo.upto (hostOps0 c) (V0 m c) 70 (Proc.devRef .tc main_v26) : (⟨S_, .i32⟩ : BufTy).Contents (Elt Ideal)) (Shape.Idx.first h_S_)) = 0 := by
  after_reads_simp
  decide +kernel

theorem start_v29 (c : Dev nD) : BitVec.toInt ((StableHlo.upto (hostOps0 c) (V0 m c) 70 (Proc.devRef .tc main_v29) : (⟨S_, .i32⟩ : BufTy).Contents (Elt Ideal)) (Shape.Idx.first h_S_)) = ((4 * c.val : ℕ) : ℤ) := by
  after_reads_simp
  exact first_head c

theorem start_v32 (c : Dev nD) : BitVec.toInt ((StableHlo.upto (hostOps0 c) (V0 m c) 70 (Proc.devRef .tc main_v32) : (⟨S_, .i32⟩ : BufTy).Contents (Elt Ideal)) (Shape.Idx.first h_S_)) = 0 := by
  after_reads_simp
  decide +kernel

/-! The keys and the values. -/

theorem k_at (c : Dev nD) (h : Fin 4) (b : Fin 2) (j : Fin 256) (e : Fin 64) :
    V1 m c main_v34 (ix4 h b j e) = m ((c : Thread nD τ).loc main_arg2) (ix4 b j (⟨4 * c.val + h.val, by have := c.isLt; change c.val < 8 at this; omega⟩ : Fin 32) e) := by
  unfold V1
  after_reads_simp
  rw [Host.dynamicSlice_eq_extractStridedSlice _ _ _ ![0, 0, 4 * c.val, 0] _ (heads_fit c)]
  · pointwise
  · intro a
    fin_cases a
    · exact start_v9 m c
    · exact start_v12 m c
    · exact start_v15 m c
    · exact start_v18 m c

theorem v_at (c : Dev nD) (h : Fin 4) (b : Fin 2) (j : Fin 256) (e : Fin 64) :
    V1 m c main_v35 (ix4 h b j e) = m ((c : Thread nD τ).loc main_arg3) (ix4 b j (⟨4 * c.val + h.val, by have := c.isLt; change c.val < 8 at this; omega⟩ : Fin 32) e) := by
  unfold V1
  after_reads_simp
  rw [Host.dynamicSlice_eq_extractStridedSlice _ _ _ ![0, 0, 4 * c.val, 0] _ (heads_fit c)]
  · pointwise
  · intro a
    fin_cases a
    · exact start_v23 m c
    · exact start_v26 m c
    · exact start_v29 m c
    · exact start_v32 m c

theorem out_line (outs) (c : Dev nD) (b : Fin 2) (i : Fin 256) (n : Fin 512) :
    V3 m outs c main_v37 (ix3 b i n) = outs 2 main_v36 c (ix2 (⟨b.val * 256 + i.val, by omega⟩ : Fin 512) n) := by
  unfold V3 V2
  after_reads_at
  rw [Function.update_self]

end Cert.KernelIdeal.Attention
-- ==== Proof.RefValue.lean ====
module

public import proofs.«01_k».proof.Proof.Gen.ReferenceIdeal.Run
public import proofs.«01_k».proof.Proof.Spec
public import Idealize.ShloMosaic.Lib.Pointwise
public import Idealize.ShloMosaic.Lib.Routing.OpsOrder
public import Idealize.ShloMosaic.Lib.Tactic.CleanTypes

/-! What the reference computes, step by step: its block numbers, its mask, its weights and its result. -/

@[expose] public section

set_option maxRecDepth 16384

noncomputable section

namespace Cert.ReferenceIdeal.Attention

open Idealize.ShloMosaic Idealize.ShloMosaic.TcCoe
open Cert.ReferenceIdeal Cert.ReferenceIdeal.Gen Cert.ReferenceIdeal.Value Cert.Attention

/-! ## The mask -/

/-- Which block of 64 each position is in. -/
def blocks : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- The number of strides, as the remainder is taken of it. -/
def stride : IVec S_ 32 := select (cmpi .eq (id (constantI S_ 32 4#32)) (constantI S_ 32 0#32)) (constantI S_ 32 1#32) (id (constantI S_ 32 4#32))

/-- Remainders by the stride, as a row and as a column. -/
def restRow : IVec S1x256 32 := Host.remsi (broadcastInDim S1x256 ![1] bcast_S256_S1x256_1 blocks) (broadcastInDim S1x256 ![] bcast_S_S1x256 stride)
def restCol : IVec S256x1 32 := Host.remsi (broadcastInDim S256x1 ![0] bcast_S256_S256x1_0 blocks) (broadcastInDim S256x1 ![] bcast_S_S256x1 stride)

/-- The same with the sign of the divisor. -/
def modRow : IVec S1x256 32 :=
  select (andi (cmpi .ne (cmpi .slt restRow (broadcastInDim S1x256 ![] bcast_S_S1x256 (constantI S_ 32 0#32))) (broadcastInDim S1x256 ![] bcast_S_S1x256 (cmpi .slt stride (constantI S_ 32 0#32)))) (cmpi .ne restRow (broadcastInDim S1x256 ![] bcast_S_S1x256 (constantI S_ 32 0#32)))) (addi restRow (broadcastInDim S1x256 ![] bcast_S_S1x256 stride)) restRow
def modCol : IVec S256x1 32 :=
  select (andi (cmpi .ne (cmpi .slt restCol (broadcastInDim S256x1 ![] bcast_S_S256x1 (constantI S_ 32 0#32))) (broadcastInDim S256x1 ![] bcast_S_S256x1 (cmpi .slt stride (constantI S_ 32 0#32)))) (cmpi .ne restCol (broadcastInDim S256x1 ![] bcast_S_S256x1 (constantI S_ 32 0#32)))) (addi restCol (broadcastInDim S256x1 ![] bcast_S_S256x1 stride)) restCol

/-- Which keys each query sees. -/
def mask : IVec S256x256 1 :=
  ori (cmpi .eq (broadcastInDim S256x256 ![0, 1] bcast_S256x1_S256x256_0_1 (broadcastInDim S256x1 ![0] bcast_S256_S256x1_0 blocks)) (broadcastInDim S256x256 ![0, 1] bcast_S1x256_S256x256_0_1 (broadcastInDim S1x256 ![1] bcast_S256_S1x256_1 blocks)))
    (cmpi .eq (broadcastInDim S256x256 ![0, 1] bcast_S1x256_S256x256_0_1 modRow) (broadcastInDim S256x256 ![0, 1] bcast_S256x1_S256x256_0_1 modCol))

/-- Which queries see any key. -/
def rowKeep : IVec S256 1 := Host.reduce IntOp.ori mask (constantI S_ 1 0#1) reducesTo_S256x256_S256_d1 h_S_

/-- The same, along the axes of the scores. -/
def rowKeep4 : IVec S1x1x256x1 1 := broadcastInDim S1x1x256x1 ![2] bcast_S256_S1x1x256x1_2 rowKeep

variable {F : FTy → Type} [FloatOps F]

/-! ## The weights -/

/-- The queries of every head. -/
def queries (x : FVec F S2x256x512 .f32) (wq : FVec F S512x2048 .f32) : FVec F S2x256x32x64 .f32 :=
  shapeCast S2x256x32x64 (Host.dotGeneral dot_S2x256x512_S512x2048_S2x256x2048_2_0_01_1_n_n none x wq) shapeCasts_S2x256x2048_S2x256x32x64

/-- The masked scores. -/
def scores (x : FVec F S2x256x512 .f32) (wq : FVec F S512x2048 .f32) (k : FVec F S2x256x32x64 .f32) : FVec F S2x32x256x256 .f32 :=
  select (broadcastInDim S2x32x256x256 ![0, 1, 2, 3] bcast_S1x1x256x256_S2x32x256x256_0_1_2_3 (broadcastInDim S1x1x256x256 ![2, 3] bcast_S256x256_S1x1x256x256_2_3 mask))
    (mulf (Host.dotGeneral dot_S2x256x32x64_S2x256x32x64_S2x32x256x256_3_3_1_1_02_02 none (queries x wq) k) (broadcastInDim S2x32x256x256 ![] bcast_S_S2x32x256x256 (constant S_ .f32 0x3E000000#32)))
    (broadcastInDim S2x32x256x256 ![] bcast_S_S2x32x256x256 (id (constant S_ .f32 0xCE6E6B28#32)))

/-- The weights before they are divided by their sum. -/
def raw (s : FVec F S2x32x256x256 .f32) : FVec F S2x32x256x256 .f32 :=
  Host.exp (subf s (broadcastInDim S2x32x256x256 ![0, 1, 2, 3] bcast_S2x32x256x1_S2x32x256x256_0_1_2_3 (broadcastInDim S2x32x256x1 ![0, 1, 2] bcast_S2x32x256_S2x32x256x1_0_1_2 (Host.reduce FloatOps.maximumf s (constant S_ .f32 0xFF800000#32) reducesTo_S2x32x256x256_S2x32x256_d3 h_S_))))

/-- The weights. -/
def weights (e : FVec F S2x32x256x256 .f32) : FVec F S2x32x256x256 .f32 :=
  select (broadcastInDim S2x32x256x256 ![0, 1, 2, 3] bcast_S1x1x256x1_S2x32x256x256_0_1_2_3 rowKeep4)
    (Host.divf e (broadcastInDim S2x32x256x256 ![0, 1, 2, 3] bcast_S2x32x256x1_S2x32x256x256_0_1_2_3 (select (broadcastInDim S2x32x256x1 ![0, 1, 2, 3] bcast_S1x1x256x1_S2x32x256x1_0_1_2_3 rowKeep4) (broadcastInDim S2x32x256x1 ![0, 1, 2] bcast_S2x32x256_S2x32x256x1_0_1_2 (Host.reduceAdd e (constant S_ .f32 0x00000000#32) reducesTo_S2x32x256x256_S2x32x256_d3 h_S_)) (broadcastInDim S2x32x256x1 ![] bcast_S_S2x32x256x1 (id (constant S_ .f32 0x3F800000#32))))))
    (broadcastInDim S2x32x256x256 ![] bcast_S_S2x32x256x256 (id (constant S_ .f32 0x00000000#32)))

/-- The result of the weights, the values and the output matrix. -/
def result (w : FVec F S2x32x256x256 .f32) (v : FVec F S2x256x32x64 .f32) (wo : FVec F S2048x512 .f32) : FVec F S2x256x512 .bf16 :=
  truncf .bf16 (Host.dotGeneral dot_S2x256x2048_S2048x512_S2x256x512_2_0_01_1_n_n none (shapeCast S2x256x2048 (transpose S2x256x32x64 [0, 3, 1, 2] (Host.dotGeneral dot_S2x256x32x64_S2x32x256x256_S2x32x64x256_1_3_3_2_02_01 none v w) transposes_S2x32x64x256_S2x256x32x64_0_3_1_2) shapeCasts_S2x256x32x64_S2x256x2048) wo) bitsLt_bf16_f32

/-- The reference's result is these steps on its arguments. -/
theorem res_eq (m : (ℓ : Loc nD τ sig) → Buf (Elt F) ℓ) (c : Dev nD) :
    res_main_v45 m c = result (F := F) (weights (raw (scores (extf .f32 (m ((c.tc : Thread nD τ).loc main_arg0)) bitsLt_bf16_f32) (extf .f32 (m ((c.tc : Thread nD τ).loc main_arg1)) bitsLt_bf16_f32) (extf .f32 (m ((c.tc : Thread nD τ).loc main_arg2)) bitsLt_bf16_f32))))
      (extf .f32 (m ((c.tc : Thread nD τ).loc main_arg3)) bitsLt_bf16_f32) (extf .f32 (m ((c.tc : Thread nD τ).loc main_arg4)) bitsLt_bf16_f32) := by
  unfold res_main_v45 result weights raw scores queries rowKeep4 rowKeep mask modRow modCol restRow restCol stride blocks
  rfl

/-! ## The steps at an index, over the extended reals -/

theorem blocks_at (i : Fin 256) : blocks (ix1 i) = BitVec.ofNat 32 (i.val / 64) := by
  pointwise [blocks]
  revert i
  decide +kernel

theorem stride_at : stride ix0 = 4#32 := by
  pointwise [stride]
  decide +kernel

theorem modRow_at (i : Fin 256) : modRow (ix2 (0 : Fin 1) i) = BitVec.ofNat 32 (i.val / 64) := by
  pointwise [modRow, restRow]
  rw [blocks_at, stride_at]
  revert i
  decide +kernel

theorem modCol_at (i : Fin 256) : modCol (ix2 i (0 : Fin 1)) = BitVec.ofNat 32 (i.val / 64) := by
  pointwise [modCol, restCol]
  rw [blocks_at, stride_at]
  revert i
  decide +kernel

theorem mask_at (i j : Fin 256) : mask (ix2 i j) = sees i j := by
  pointwise [mask]
  rw [blocks_at, blocks_at, modRow_at, modCol_at, words_sees, words_sees]
  unfold sees
  simp only [eq_comm (a := j.val / 64)]
  generalize decide (i.val / 64 = j.val / 64) = x
  revert x
  decide

theorem rowKeep_at (i : Fin 256) : rowKeep (ix1 i) = 1#1 := by
  pointwise [rowKeep]
  exact (Routing.fold_ori _ _).2 ⟨i, Finset.mem_univ i, (mask_at i i).trans (sees_self i)⟩

theorem queries_at (x : FVec Ideal S2x256x512 .f32) (wq : FVec Ideal S512x2048 .f32) (b : Fin 2) (i : Fin 256) (h : Fin 32) (d : Fin 64) :
    queries x wq (ix4 b i h d) = ∑ k, x (ix3 b i k) * wq (ix2 k ⟨h.val * 64 + d.val, by omega⟩) := by
  pointwise [queries]

/-- A score. -/
def score (x : FVec Ideal S2x256x512 .f32) (wq : FVec Ideal S512x2048 .f32) (k : FVec Ideal S2x256x32x64 .f32) (b : Fin 2) (h : Fin 32) (i j : Fin 256) : EReal :=
  (∑ e : Fin 64, (∑ n, x (ix3 b i n) * wq (ix2 n ⟨h.val * 64 + e.val, by omega⟩)) * k (ix4 b j h e)) * eighth

theorem scores_at (x : FVec Ideal S2x256x512 .f32) (wq : FVec Ideal S512x2048 .f32) (k : FVec Ideal S2x256x32x64 .f32) (b : Fin 2) (i j : Fin 256) (h : Fin 32) :
    scores x wq k (ix4 b h i j) = masked i (score x wq k b h i) j := by
  pointwise [scores]
  simp only [mask_at, queries_at]
  rfl

theorem raw_at (x : FVec Ideal S2x256x512 .f32) (wq : FVec Ideal S512x2048 .f32) (k : FVec Ideal S2x256x32x64 .f32) (b : Fin 2) (i j : Fin 256) (h : Fin 32) :
    raw (scores x wq k) (ix4 b h i j) = heft i (score x wq k b h i) j := by
  pointwise [raw]
  simp only [scores_at]
  rfl

theorem weights_at (x : FVec Ideal S2x256x512 .f32) (wq : FVec Ideal S512x2048 .f32) (k : FVec Ideal S2x256x32x64 .f32) (b : Fin 2) (i j : Fin 256) (h : Fin 32) :
    weights (raw (scores x wq k)) (ix4 b h i j) = Ideal.div (heft i (score x wq k b h i) j) (∑ j', heft i (score x wq k b h i) j') := by
  pointwise [weights, rowKeep4]
  simp only [rowKeep_at, raw_at]
  rfl

/-- The reference's result at each place. -/
theorem result_at (x : FVec Ideal S2x256x512 .f32) (wq : FVec Ideal S512x2048 .f32) (k v : FVec Ideal S2x256x32x64 .f32) (wo : FVec Ideal S2048x512 .f32) (b : Fin 2) (i : Fin 256) (n : Fin 512) :
    result (weights (raw (scores x wq k))) v wo (ix3 b i n) =
      ∑ r : Fin 2048, attend i (score x wq k b ⟨r.val / 64, by omega⟩ i) (fun j => v (ix4 b j ⟨r.val / 64, by omega⟩ ⟨r.val % 64, by omega⟩)) * wo (ix2 r n) := by
  pointwise [result]
  simp only [weights_at]
  unfold attend
  refine Finset.sum_congr rfl fun r _ => congrArg (· * _) (Finset.sum_congr rfl fun j _ => mul_comm _ _)

end Cert.ReferenceIdeal.Attention
-- ==== Proof.Value.lean ====
module

public import proofs.«01_k».proof.Defs
public import proofs.«01_k».proof.Proof.Inputs
public import proofs.«01_k».proof.Proof.RefValue
public import proofs.«01_k».proof.Proof.Run
public import Idealize.ShloMosaic.Lib.Layout

/-! The kernel and the reference end with the same result, over the extended reals. -/

@[expose] public section

set_option maxRecDepth 16384

noncomputable section

namespace Cert.Proof

open Idealize.ShloMosaic Idealize.ShloMosaic.TcCoe Idealize.SL.Sem
open Cert.KernelIdeal.Exchange Cert.Attention

/-- Head `h` of device `d` among all the heads. -/
abbrev headOf (d : Fin 8) (h : Fin 4) : Fin 32 := ⟨4 * d.val + h.val, by omega⟩

/-- Where the devices' inputs are the blocks of the reference's arrays, the sum of the devices' parts is the reference's result. -/
theorem out_result (J : Fin 8 → Ins Ideal) (X : FVec Ideal Cert.ReferenceIdeal.S2x256x512 .f32) (WQ : FVec Ideal Cert.ReferenceIdeal.S512x2048 .f32)
    (K V : FVec Ideal Cert.ReferenceIdeal.S2x256x32x64 .f32) (WO : FVec Ideal Cert.ReferenceIdeal.S2048x512 .f32)
    (hx : ∀ (d : Fin 8) (b : Fin 2) (i : Fin 256) (k : Fin 512), (J d).x (ix2 (⟨256 * b.val + i.val, by omega⟩ : Fin 512) k) = X (ix3 b i k))
    (hq : ∀ (d : Fin 8) (k : Fin 512) (h : Fin 4) (e : Fin 64), (J d).wq (ix2 k (⟨64 * h.val + e.val, by omega⟩ : Fin 256)) = WQ (ix2 k (⟨(headOf d h).val * 64 + e.val, by omega⟩ : Fin 2048)))
    (hk : ∀ (d : Fin 8) (h : Fin 4) (b : Fin 2) (j : Fin 256) (e : Fin 64), (J d).k (ix4 h b j e) = K (ix4 b j (headOf d h) e))
    (hv : ∀ (d : Fin 8) (h : Fin 4) (b : Fin 2) (j : Fin 256) (e : Fin 64), (J d).v (ix4 h b j e) = V (ix4 b j (headOf d h) e))
    (hw : ∀ (d : Fin 8) (k : Fin 256) (n : Fin 512), (J d).wo (ix2 k n) = WO (ix2 (⟨256 * d.val + k.val, by omega⟩ : Fin 2048) n))
    (b : Fin 2) (i : Fin 256) (n : Fin 512) :
    outV J (ix2 (⟨b.val * 256 + i.val, by omega⟩ : Fin 512) n) =
      Cert.ReferenceIdeal.Attention.result (Cert.ReferenceIdeal.Attention.weights (Cert.ReferenceIdeal.Attention.raw (Cert.ReferenceIdeal.Attention.scores X WQ K))) V WO (ix3 b i n) := by
  rw [Cert.KernelIdeal.Attention.out_at, Cert.ReferenceIdeal.Attention.result_at, sum_blocks]
  refine Finset.sum_congr rfl fun (d : Fin 8) _ => Finset.sum_congr rfl fun k _ => ?_
  have e0 : (⟨(b.val * 256 + i.val) / 256, by omega⟩ : Fin 2) = b := Fin.ext (by show (b.val * 256 + i.val) / 256 = b.val; omega)
  have e1 : (⟨(b.val * 256 + i.val) % 256, by omega⟩ : Fin 256) = i := Fin.ext (by show (b.val * 256 + i.val) % 256 = i.val; omega)
  have e2 : (⟨(256 * d.val + k.val) / 64, by omega⟩ : Fin 32) = headOf d ⟨k.val / 64, by omega⟩ :=
    Fin.ext (by show (256 * d.val + k.val) / 64 = 4 * d.val + k.val / 64; omega)
  have e3 : (⟨(256 * d.val + k.val) % 64, by omega⟩ : Fin 64) = ⟨k.val % 64, by omega⟩ :=
    Fin.ext (by show (256 * d.val + k.val) % 64 = k.val % 64; omega)
  rw [Cert.KernelIdeal.Attention.ctx_at]
  simp only [e0, e1, e2, e3]
  rw [Cert.KernelIdeal.Attention.head_at, hw]
  refine congrArg (· * _) (congrArg₂ (attend i) (funext fun j => ?_) (funext fun j => hv d _ b j _))
  refine (Finset.sum_congr rfl fun e _ => ?_).trans (sum_eighth (fun e : Fin 64 => ∑ n, X (ix3 b i n) * WQ (ix2 n (⟨(headOf d ⟨k.val / 64, by omega⟩).val * 64 + e.val, by omega⟩ : Fin 2048)))
    (fun e => K (ix4 b j (headOf d ⟨k.val / 64, by omega⟩) e)))
  refine congrArg₂ (· * ·) (congrArg (· * _) (Finset.sum_congr rfl fun n _ => congrArg₂ (· * ·) (hx d b i n) (hq d n ⟨k.val / 64, by omega⟩ e))) (hk d _ b j e)

/-- A device's columns of the query matrix. -/
theorem cols_at (d : Fin 8) (v : (⟨2, ![512, 2048]⟩ : Shape).Idx → EReal) (k : Fin 512) (h : Fin 4) (e : Fin 64) :
    Layout.block ⟨2, ![512, 256]⟩ ⟨2, ![512, 2048]⟩ 1 8 d v (by decide) (ix2 k (⟨64 * h.val + e.val, by omega⟩ : Fin 256)) = v (ix2 k (⟨(headOf d h).val * 64 + e.val, by omega⟩ : Fin 2048)) := by
  refine congrArg v (funext fun a => Fin.ext ?_)
  fin_cases a
  · rfl
  · show d.val * 256 + (64 * h.val + e.val) = (4 * d.val + h.val) * 64 + e.val
    omega

/-- A device's rows of the output matrix. -/
theorem rows_at (d : Fin 8) (v : (⟨2, ![2048, 512]⟩ : Shape).Idx → EReal) (k : Fin 256) (n : Fin 512) :
    Layout.block ⟨2, ![256, 512]⟩ ⟨2, ![2048, 512]⟩ 0 8 d v (by decide) (ix2 k n) = v (ix2 (⟨256 * d.val + k.val, by omega⟩ : Fin 2048) n) := by
  refine congrArg v (funext fun a => Fin.ext ?_)
  fin_cases a
  · show d.val * 256 + k.val = 256 * d.val + k.val
    omega
  · rfl

set_option maxHeartbeats 4000000 in
/-- The two programs end with the same result. -/
theorem algebraic : Cert.algebraic_KernelIdeal_ReferenceIdeal := by
  intro m g m' g' _ hm
  have hval (c : Dev Cert.KernelIdeal.nD) :
      Cert.KernelIdeal.Gen.V3 m (outsOf m) c Cert.KernelIdeal.main_v37 = Cert.ReferenceIdeal.Value.res_main_v45 m' 0 := by
    rw [Cert.ReferenceIdeal.Attention.res_eq]
    funext i
    obtain ⟨b, i, n, rfl⟩ : ∃ (b : Fin 2) (j : Fin 256) (n : Fin 512), i = ix3 b j n := ⟨i 0, i 1, i 2, ValueIdx.eq_ix3 i⟩
    refine (Cert.KernelIdeal.Attention.out_line m (outsOf m) c b i n).trans ?_
    rw [outsOf_res]
    refine out_result (insOf m) _ _ _ _ _ ?_ ?_ ?_ ?_ ?_ b i n
    · intro d b i k
      refine (Cert.KernelIdeal.Attention.x_at m d ⟨256 * b.val + i.val, by omega⟩ k).trans ?_
      rw [(hm d).1]
      have e0 : (⟨(256 * b.val + i.val) / 256, by omega⟩ : Fin 2) = b := Fin.ext (by show (256 * b.val + i.val) / 256 = b.val; omega)
      have e1 : (⟨(256 * b.val + i.val) % 256, by omega⟩ : Fin 256) = i := Fin.ext (by show (256 * b.val + i.val) % 256 = i.val; omega)
      simp only [e0, e1]
      rfl
    · intro d k h e
      exact (congrFun ((Cert.KernelIdeal.Gen.V1_of m d Cert.KernelIdeal.main_arg1 (by decide)).trans (hm d).2.1) _).trans (cols_at d _ k h e)
    · intro d h b j e
      refine (Cert.KernelIdeal.Attention.k_at m d h b j e).trans ?_
      rw [(hm d).2.2.1]
      rfl
    · intro d h b j e
      refine (Cert.KernelIdeal.Attention.v_at m d h b j e).trans ?_
      rw [(hm d).2.2.2.1]
      rfl
    · intro d k n
      exact (congrFun ((Cert.KernelIdeal.Gen.V1_of m d Cert.KernelIdeal.main_arg4 (by decide)).trans (hm d).2.2.2.2) _).trans (rows_at d _ k n)
  refine ⟨Cert.ReferenceIdeal.Value.res_main_v45 m' 0, ?_, ?_⟩
  · exact (θ_run Cert.KernelIdeal.defs _ _).mono (fun _ h c => ⟨(h.1 c).2.trans (hval c), (h.1 c).1⟩) (run_main (F := Ideal) m g)
  · exact (θ_run Cert.ReferenceIdeal.defs _ _).mono (fun _ h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, algebraic⟩

end Cert.Proof

end
